-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8192x65 : Shape := ⟨2, ![8192, 65]⟩
abbrev S8192x32 : Shape := ⟨2, ![8192, 32]⟩
abbrev S8192x512 : Shape := ⟨2, ![8192, 512]⟩
abbrev S8192x65x13 : Shape := ⟨3, ![8192, 65, 13]⟩
abbrev S512x1024 : Shape := ⟨2, ![512, 1024]⟩
abbrev S13x32 : Shape := ⟨2, ![13, 32]⟩
abbrev S32x48 : Shape := ⟨2, ![32, 48]⟩
abbrev S48 : Shape := ⟨1, ![48]⟩
abbrev S544x256 : Shape := ⟨2, ![544, 256]⟩
abbrev S16x32 : Shape := ⟨2, ![16, 32]⟩
abbrev S352x256 : Shape := ⟨2, ![352, 256]⟩
abbrev S_ : Shape := ⟨0, ![]⟩
abbrev S8192 : Shape := ⟨1, ![8192]⟩

class Facts : Prop where
  bcast_S_S8192x65 : S_.BroadcastsInDim S8192x65 (![] : Fin 0 → Fin S8192x65.rank)
  reducesTo_S8192x65_S8192_d1 : S8192x65.ReducesTo [1] S8192
  h_S_ : 0 < S_.numel
  bcast_S_S8192x512 : S_.BroadcastsInDim S8192x512 (![] : Fin 0 → Fin S8192x512.rank)
  bcast_S_S8192x65x13 : S_.BroadcastsInDim S8192x65x13 (![] : Fin 0 → Fin S8192x65x13.rank)
  bcast_S_S512x1024 : S_.BroadcastsInDim S512x1024 (![] : Fin 0 → Fin S512x1024.rank)
  bcast_S_S13x32 : S_.BroadcastsInDim S13x32 (![] : Fin 0 → Fin S13x32.rank)
  bcast_S_S32x48 : S_.BroadcastsInDim S32x48 (![] : Fin 0 → Fin S32x48.rank)
  bcast_S_S48 : S_.BroadcastsInDim S48 (![] : Fin 0 → Fin S48.rank)
  bcast_S_S8192x32 : S_.BroadcastsInDim S8192x32 (![] : Fin 0 → Fin S8192x32.rank)
  bcast_S_S544x256 : S_.BroadcastsInDim S544x256 (![] : Fin 0 → Fin S544x256.rank)
  bcast_S_S16x32 : S_.BroadcastsInDim S16x32 (![] : Fin 0 → Fin S16x32.rank)
  bcast_S_S352x256 : S_.BroadcastsInDim S352x256 (![] : Fin 0 → Fin S352x256.rank)

variable [Facts]

def fn_part3 {F : FTy → Type} [FloatOps F] (main_arg14 : FVec F S352x256 .f32) (main_v2 : IVec S8192x65 1) (main_v7 : IVec S8192x65 1) (main_v13 : IVec S8192x65 1) (main_v16 : IVec S8192 1) (main_v19 : IVec S8192 1) (main_v22 : IVec S8192x512 1) (main_v25 : IVec S8192x65x13 1) (main_v28 : IVec S512x1024 1) (main_v31 : IVec S13x32 1) (main_v34 : IVec S32x48 1) (main_v37 : IVec S48 1) (main_v40 : IVec S8192x32 1) (main_v43 : IVec S544x256 1) (main_v46 : IVec S16x32 1) (main_v49 : IVec S16x32 1) (main_v50 : FVec F S16x32 .f32) (main_v51 : FVec F S16x32 .f32) : IVec S8192x65 1 × IVec S8192x65 1 × IVec S8192x65 1 × IVec S8192 1 × IVec S8192 1 × IVec S8192x512 1 × IVec S8192x65x13 1 × IVec S512x1024 1 × IVec S13x32 1 × IVec S32x48 1 × IVec S48 1 × IVec S8192x32 1 × IVec S544x256 1 × IVec S16x32 1 × IVec S16x32 1 × IVec S16x32 1 × IVec S352x256 1 :=
  let main_v52 : IVec S16x32 1 := cmpf .olt main_v50 main_v51
  let main_v53 : FVec F S352x256 .f32 := Host.absf main_arg14
  let main_cst_18 : FVec F S_ .f32 := constant S_ .f32 0x7F800000#32
  let main_v54 : FVec F S352x256 .f32 := broadcastInDim S352x256 ![] bcast_S_S352x256 main_cst_18
  let main_v55 : IVec S352x256 1 := cmpf .olt main_v53 main_v54
  (main_v2, main_v7, main_v13, main_v16, main_v19, main_v22, main_v25, main_v28, main_v31, main_v34, main_v37, main_v40, main_v43, main_v46, main_v49, main_v52, main_v55)

def fn_part2 {F : FTy → Type} [FloatOps F] (main_arg3 : FVec F S8192x32 .f32) (main_arg9 : FVec F S48 .f32) (main_arg10 : FVec F S544x256 .f32) (main_arg11 : FVec F S16x32 .f32) (main_arg12 : FVec F S16x32 .f32) (main_arg13 : FVec F S16x32 .f32) (main_arg14 : FVec F S352x256 .f32) (main_v2 : IVec S8192x65 1) (main_v7 : IVec S8192x65 1) (main_v13 : IVec S8192x65 1) (main_v16 : IVec S8192 1) (main_v19 : IVec S8192 1) (main_v22 : IVec S8192x512 1) (main_v25 : IVec S8192x65x13 1) (main_v28 : IVec S512x1024 1) (main_v31 : IVec S13x32 1) (main_v32 : FVec F S32x48 .f32) (main_v33 : FVec F S32x48 .f32) : IVec S8192x65 1 × IVec S8192x65 1 × IVec S8192x65 1 × IVec S8192 1 × IVec S8192 1 × IVec S8192x512 1 × IVec S8192x65x13 1 × IVec S512x1024 1 × IVec S13x32 1 × IVec S32x48 1 × IVec S48 1 × IVec S8192x32 1 × IVec S544x256 1 × IVec S16x32 1 × IVec S16x32 1 × IVec S16x32 1 × IVec S352x256 1 :=
  let main_v34 : IVec S32x48 1 := cmpf .ole main_v32 main_v33
  let main_v35 : FVec F S48 .f32 := Host.absf main_arg9
  let main_cst_12 : FVec F S_ .f32 := constant S_ .f32 0x47800000#32
  let main_v36 : FVec F S48 .f32 := broadcastInDim S48 ![] bcast_S_S48 main_cst_12
  let main_v37 : IVec S48 1 := cmpf .ole main_v35 main_v36
  let main_v38 : FVec F S8192x32 .f32 := Host.absf main_arg3
  let main_cst_13 : FVec F S_ .f32 := constant S_ .f32 0x7F800000#32
  let main_v39 : FVec F S8192x32 .f32 := broadcastInDim S8192x32 ![] bcast_S_S8192x32 main_cst_13
  let main_v40 : IVec S8192x32 1 := cmpf .olt main_v38 main_v39
  let main_v41 : FVec F S544x256 .f32 := Host.absf main_arg10
  let main_cst_14 : FVec F S_ .f32 := constant S_ .f32 0x7F800000#32
  let main_v42 : FVec F S544x256 .f32 := broadcastInDim S544x256 ![] bcast_S_S544x256 main_cst_14
  let main_v43 : IVec S544x256 1 := cmpf .olt main_v41 main_v42
  let main_v44 : FVec F S16x32 .f32 := Host.absf main_arg11
  let main_cst_15 : FVec F S_ .f32 := constant S_ .f32 0x7F800000#32
  let main_v45 : FVec F S16x32 .f32 := broadcastInDim S16x32 ![] bcast_S_S16x32 main_cst_15
  let main_v46 : IVec S16x32 1 := cmpf .olt main_v44 main_v45
  let main_v47 : FVec F S16x32 .f32 := Host.absf main_arg12
  let main_cst_16 : FVec F S_ .f32 := constant S_ .f32 0x7F800000#32
  let main_v48 : FVec F S16x32 .f32 := broadcastInDim S16x32 ![] bcast_S_S16x32 main_cst_16
  let main_v49 : IVec S16x32 1 := cmpf .olt main_v47 main_v48
  let main_v50 : FVec F S16x32 .f32 := Host.absf main_arg13
  let main_cst_17 : FVec F S_ .f32 := constant S_ .f32 0x7F800000#32
  let main_v51 : FVec F S16x32 .f32 := broadcastInDim S16x32 ![] bcast_S_S16x32 main_cst_17
  fn_part3 (F := F) main_arg14 main_v2 main_v7 main_v13 main_v16 main_v19 main_v22 main_v25 main_v28 main_v31 main_v34 main_v37 main_v40 main_v43 main_v46 main_v49 main_v50 main_v51

def fn_part1 {F : FTy → Type} [FloatOps F] (main_arg2 : FVec F S8192x65 .f32) (main_arg3 : FVec F S8192x32 .f32) (main_arg4 : FVec F S8192x512 .f32) (main_arg5 : FVec F S8192x65x13 .f32) (main_arg6 : FVec F S512x1024 .f32) (main_arg7 : FVec F S13x32 .f32) (main_arg8 : FVec F S32x48 .f32) (main_arg9 : FVec F S48 .f32) (main_arg10 : FVec F S544x256 .f32) (main_arg11 : FVec F S16x32 .f32) (main_arg12 : FVec F S16x32 .f32) (main_arg13 : FVec F S16x32 .f32) (main_arg14 : FVec F S352x256 .f32) (main_v2 : IVec S8192x65 1) (main_v7 : IVec S8192x65 1) (main_v13 : IVec S8192x65 1) (main_v16 : IVec S8192 1) : IVec S8192x65 1 × IVec S8192x65 1 × IVec S8192x65 1 × IVec S8192 1 × IVec S8192 1 × IVec S8192x512 1 × IVec S8192x65x13 1 × IVec S512x1024 1 × IVec S13x32 1 × IVec S32x48 1 × IVec S48 1 × IVec S8192x32 1 × IVec S544x256 1 × IVec S16x32 1 × IVec S16x32 1 × IVec S16x32 1 × IVec S352x256 1 :=
  let main_cst_5 : FVec F S_ .f32 := constant S_ .f32 0x00000000#32
  let main_v17 : FVec F S8192x65 .f32 := broadcastInDim S8192x65 ![] bcast_S_S8192x65 main_cst_5
  let main_v18 : IVec S8192x65 1 := cmpf .ogt main_arg2 main_v17
  let main_c_6 : IVec S_ 1 := constantI S_ 1 0#1
  let main_v19 : IVec S8192 1 := (fun x v => Host.reduce IntOp.ori x v reducesTo_S8192x65_S8192_d1 h_S_) main_v18 main_c_6
  let main_v20 : FVec F S8192x512 .f32 := Host.absf main_arg4
  let main_cst_7 : FVec F S_ .f32 := constant S_ .f32 0x47800000#32
  let main_v21 : FVec F S8192x512 .f32 := broadcastInDim S8192x512 ![] bcast_S_S8192x512 main_cst_7
  let main_v22 : IVec S8192x512 1 := cmpf .ole main_v20 main_v21
  let main_v23 : FVec F S8192x65x13 .f32 := Host.absf main_arg5
  let main_cst_8 : FVec F S_ .f32 := constant S_ .f32 0x47800000#32
  let main_v24 : FVec F S8192x65x13 .f32 := broadcastInDim S8192x65x13 ![] bcast_S_S8192x65x13 main_cst_8
  let main_v25 : IVec S8192x65x13 1 := cmpf .ole main_v23 main_v24
  let main_v26 : FVec F S512x1024 .f32 := Host.absf main_arg6
  let main_cst_9 : FVec F S_ .f32 := constant S_ .f32 0x47800000#32
  let main_v27 : FVec F S512x1024 .f32 := broadcastInDim S512x1024 ![] bcast_S_S512x1024 main_cst_9
  let main_v28 : IVec S512x1024 1 := cmpf .ole main_v26 main_v27
  let main_v29 : FVec F S13x32 .f32 := Host.absf main_arg7
  let main_cst_10 : FVec F S_ .f32 := constant S_ .f32 0x47800000#32
  let main_v30 : FVec F S13x32 .f32 := broadcastInDim S13x32 ![] bcast_S_S13x32 main_cst_10
  let main_v31 : IVec S13x32 1 := cmpf .ole main_v29 main_v30
  let main_v32 : FVec F S32x48 .f32 := Host.absf main_arg8
  let main_cst_11 : FVec F S_ .f32 := constant S_ .f32 0x47800000#32
  let main_v33 : FVec F S32x48 .f32 := broadcastInDim S32x48 ![] bcast_S_S32x48 main_cst_11
  fn_part2 (F := F) main_arg3 main_arg9 main_arg10 main_arg11 main_arg12 main_arg13 main_arg14 main_v2 main_v7 main_v13 main_v16 main_v19 main_v22 main_v25 main_v28 main_v31 main_v32 main_v33

def fn {F : FTy → Type} [FloatOps F] (main_arg0 : FVec F S8192x65 .f32) (main_arg1 : FVec F S8192x65 .f32) (main_arg2 : FVec F S8192x65 .f32) (main_arg3 : FVec F S8192x32 .f32) (main_arg4 : FVec F S8192x512 .f32) (main_arg5 : FVec F S8192x65x13 .f32) (main_arg6 : FVec F S512x1024 .f32) (main_arg7 : FVec F S13x32 .f32) (main_arg8 : FVec F S32x48 .f32) (main_arg9 : FVec F S48 .f32) (main_arg10 : FVec F S544x256 .f32) (main_arg11 : FVec F S16x32 .f32) (main_arg12 : FVec F S16x32 .f32) (main_arg13 : FVec F S16x32 .f32) (main_arg14 : FVec F S352x256 .f32) : IVec S8192x65 1 × IVec S8192x65 1 × IVec S8192x65 1 × IVec S8192 1 × IVec S8192 1 × IVec S8192x512 1 × IVec S8192x65x13 1 × IVec S512x1024 1 × IVec S13x32 1 × IVec S32x48 1 × IVec S48 1 × IVec S8192x32 1 × IVec S544x256 1 × IVec S16x32 1 × IVec S16x32 1 × IVec S16x32 1 × IVec S352x256 1 :=
  let main_v0 : FVec F S8192x65 .f32 := Host.absf main_arg0
  let main_cst : FVec F S_ .f32 := constant S_ .f32 0x47800000#32
  let main_v1 : FVec F S8192x65 .f32 := broadcastInDim S8192x65 ![] bcast_S_S8192x65 main_cst
  let main_v2 : IVec S8192x65 1 := cmpf .ole main_v0 main_v1
  let main_cst_0 : FVec F S_ .f32 := constant S_ .f32 0x00000000#32
  let main_v3 : FVec F S8192x65 .f32 := broadcastInDim S8192x65 ![] bcast_S_S8192x65 main_cst_0
  let main_v4 : IVec S8192x65 1 := cmpf .oeq main_arg1 main_v3
  let main_cst_1 : FVec F S_ .f32 := constant S_ .f32 0x3F800000#32
  let main_v5 : FVec F S8192x65 .f32 := broadcastInDim S8192x65 ![] bcast_S_S8192x65 main_cst_1
  let main_v6 : IVec S8192x65 1 := cmpf .oeq main_arg1 main_v5
  let main_v7 : IVec S8192x65 1 := ori main_v4 main_v6
  let main_cst_2 : FVec F S_ .f32 := constant S_ .f32 0x00000000#32
  let main_v8 : FVec F S8192x65 .f32 := broadcastInDim S8192x65 ![] bcast_S_S8192x65 main_cst_2
  let main_v9 : IVec S8192x65 1 := cmpf .oge main_arg2 main_v8
  let main_v10 : FVec F S8192x65 .f32 := Host.absf main_arg2
  let main_cst_3 : FVec F S_ .f32 := constant S_ .f32 0x47800000#32
  let main_v11 : FVec F S8192x65 .f32 := broadcastInDim S8192x65 ![] bcast_S_S8192x65 main_cst_3
  let main_v12 : IVec S8192x65 1 := cmpf .ole main_v10 main_v11
  let main_v13 : IVec S8192x65 1 := andi main_v9 main_v12
  let main_cst_4 : FVec F S_ .f32 := constant S_ .f32 0x3F800000#32
  let main_v14 : FVec F S8192x65 .f32 := broadcastInDim S8192x65 ![] bcast_S_S8192x65 main_cst_4
  let main_v15 : IVec S8192x65 1 := cmpf .oeq main_arg1 main_v14
  let main_c : IVec S_ 1 := constantI S_ 1 0#1
  let main_v16 : IVec S8192 1 := (fun x v => Host.reduce IntOp.ori x v reducesTo_S8192x65_S8192_d1 h_S_) main_v15 main_c
  fn_part1 (F := F) main_arg2 main_arg3 main_arg4 main_arg5 main_arg6 main_arg7 main_arg8 main_arg9 main_arg10 main_arg11 main_arg12 main_arg13 main_arg14 main_v2 main_v7 main_v13 main_v16
-- ==== Kernel.lean ====
abbrev S8192x65 : Shape := ⟨2, ![8192, 65]⟩
abbrev S8192x32 : Shape := ⟨2, ![8192, 32]⟩
abbrev S8192x512 : Shape := ⟨2, ![8192, 512]⟩
abbrev S8192x65x13 : Shape := ⟨3, ![8192, 65, 13]⟩
abbrev S512x1024 : Shape := ⟨2, ![512, 1024]⟩
abbrev S13x32 : Shape := ⟨2, ![13, 32]⟩
abbrev S32x48 : Shape := ⟨2, ![32, 48]⟩
abbrev S48 : Shape := ⟨1, ![48]⟩
abbrev S544x256 : Shape := ⟨2, ![544, 256]⟩
abbrev S16x32 : Shape := ⟨2, ![16, 32]⟩
abbrev S352x256 : Shape := ⟨2, ![352, 256]⟩
abbrev S1x48 : Shape := ⟨2, ![1, 48]⟩
abbrev S8192x256 : Shape := ⟨2, ![8192, 256]⟩
abbrev S128x65 : Shape := ⟨2, ![128, 65]⟩
abbrev S128x32 : Shape := ⟨2, ![128, 32]⟩
abbrev S128x512 : Shape := ⟨2, ![128, 512]⟩
abbrev S128x65x13 : Shape := ⟨3, ![128, 65, 13]⟩
abbrev S128x256 : Shape := ⟨2, ![128, 256]⟩
abbrev S512x416 : Shape := ⟨2, ![512, 416]⟩
abbrev S128x32x48 : Shape := ⟨3, ![128, 32, 48]⟩
abbrev S128x6x96 : Shape := ⟨3, ![128, 6, 96]⟩
abbrev S48x256 : Shape := ⟨2, ![48, 256]⟩
abbrev S512x256 : Shape := ⟨2, ![512, 256]⟩
abbrev S32x256 : Shape := ⟨2, ![32, 256]⟩
abbrev S512x32x32 : Shape := ⟨3, ![512, 32, 32]⟩
abbrev S1x13x32 : Shape := ⟨3, ![1, 13, 32]⟩
abbrev S512x13x32 : Shape := ⟨3, ![512, 13, 32]⟩
abbrev S512x32x13 : Shape := ⟨3, ![512, 32, 13]⟩
abbrev S1x32x48 : Shape := ⟨3, ![1, 32, 48]⟩
abbrev S6x96 : Shape := ⟨2, ![6, 96]⟩
abbrev S1x96 : Shape := ⟨2, ![1, 96]⟩
abbrev S1x6x96 : Shape := ⟨3, ![1, 6, 96]⟩
abbrev S16x256 : Shape := ⟨2, ![16, 256]⟩
abbrev S256x256 : Shape := ⟨2, ![256, 256]⟩
abbrev S128x416 : Shape := ⟨2, ![128, 416]⟩
abbrev S128x32x13 : Shape := ⟨3, ![128, 32, 13]⟩
abbrev S128x65x32 : Shape := ⟨3, ![128, 65, 32]⟩
abbrev S128x65x48 : Shape := ⟨3, ![128, 65, 48]⟩
abbrev S128x390 : Shape := ⟨2, ![128, 390]⟩
abbrev S128x6x65 : Shape := ⟨3, ![128, 6, 65]⟩
abbrev S128x65x96 : Shape := ⟨3, ![128, 65, 96]⟩
abbrev S128x48 : Shape := ⟨2, ![128, 48]⟩
abbrev S128 : Shape := ⟨1, ![128]⟩
abbrev S128x1 : Shape := ⟨2, ![128, 1]⟩
abbrev S128x16 : Shape := ⟨2, ![128, 16]⟩

abbrev nBuf : Space → Nat
  | .hbm => 19
  | .vmem => 29
  | .smem => 0
  | _ => 0

abbrev bufTy : (tb : Table) → Fin (tcTables nBuf tb) → BufTy
  | .hbm, ⟨0, _⟩ => ⟨S8192x65, .f32⟩
  | .hbm, ⟨1, _⟩ => ⟨S8192x65, .f32⟩
  | .hbm, ⟨2, _⟩ => ⟨S8192x65, .f32⟩
  | .hbm, ⟨3, _⟩ => ⟨S8192x32, .f32⟩
  | .hbm, ⟨4, _⟩ => ⟨S8192x512, .f32⟩
  | .hbm, ⟨5, _⟩ => ⟨S8192x65x13, .f32⟩
  | .hbm, ⟨6, _⟩ => ⟨S512x1024, .f32⟩
  | .hbm, ⟨7, _⟩ => ⟨S13x32, .f32⟩
  | .hbm, ⟨8, _⟩ => ⟨S32x48, .f32⟩
  | .hbm, ⟨9, _⟩ => ⟨S48, .f32⟩
  | .hbm, ⟨10, _⟩ => ⟨S544x256, .f32⟩
  | .hbm, ⟨11, _⟩ => ⟨S16x32, .f32⟩
  | .hbm, ⟨12, _⟩ => ⟨S16x32, .f32⟩
  | .hbm, ⟨13, _⟩ => ⟨S16x32, .f32⟩
  | .hbm, ⟨14, _⟩ => ⟨S352x256, .f32⟩
  | .hbm, ⟨15, _⟩ => ⟨S8192x512, .bf16⟩
  | .hbm, ⟨16, _⟩ => ⟨S8192x65x13, .bf16⟩
  | .hbm, ⟨17, _⟩ => ⟨S1x48, .f32⟩
  | .hbm, ⟨18, _⟩ => ⟨S8192x256, .f32⟩
  | .local _ .vmem, ⟨0, _⟩ => ⟨S128x65, .f32⟩
  | .local _ .vmem, ⟨1, _⟩ => ⟨S128x65, .f32⟩
  | .local _ .vmem, ⟨2, _⟩ => ⟨S128x65, .f32⟩
  | .local _ .vmem, ⟨3, _⟩ => ⟨S128x65, .f32⟩
  | .local _ .vmem, ⟨4, _⟩ => ⟨S128x65, .f32⟩
  | .local _ .vmem, ⟨5, _⟩ => ⟨S128x65, .f32⟩
  | .local _ .vmem, ⟨6, _⟩ => ⟨S128x32, .f32⟩
  | .local _ .vmem, ⟨7, _⟩ => ⟨S128x32, .f32⟩
  | .local _ .vmem, ⟨8, _⟩ => ⟨S128x512, .bf16⟩
  | .local _ .vmem, ⟨9, _⟩ => ⟨S128x512, .bf16⟩
  | .local _ .vmem, ⟨10, _⟩ => ⟨S128x65x13, .bf16⟩
  | .local _ .vmem, ⟨11, _⟩ => ⟨S128x65x13, .bf16⟩
  | .local _ .vmem, ⟨12, _⟩ => ⟨S512x1024, .f32⟩
  | .local _ .vmem, ⟨13, _⟩ => ⟨S13x32, .f32⟩
  | .local _ .vmem, ⟨14, _⟩ => ⟨S32x48, .f32⟩
  | .local _ .vmem, ⟨15, _⟩ => ⟨S1x48, .f32⟩
  | .local _ .vmem, ⟨16, _⟩ => ⟨S544x256, .f32⟩
  | .local _ .vmem, ⟨17, _⟩ => ⟨S16x32, .f32⟩
  | .local _ .vmem, ⟨18, _⟩ => ⟨S16x32, .f32⟩
  | .local _ .vmem, ⟨19, _⟩ => ⟨S16x32, .f32⟩
  | .local _ .vmem, ⟨20, _⟩ => ⟨S352x256, .f32⟩
  | .local _ .vmem, ⟨21, _⟩ => ⟨S128x256, .f32⟩
  | .local _ .vmem, ⟨22, _⟩ => ⟨S128x256, .f32⟩
  | .local _ .vmem, ⟨23, _⟩ => ⟨S512x416, .bf16⟩
  | .local _ .vmem, ⟨24, _⟩ => ⟨S128x32x48, .f32⟩
  | .local _ .vmem, ⟨25, _⟩ => ⟨S128x6x96, .f32⟩
  | .local _ .vmem, ⟨26, _⟩ => ⟨S48x256, .f32⟩
  | .local _ .vmem, ⟨27, _⟩ => ⟨S512x256, .bf16⟩
  | .local _ .vmem, ⟨28, _⟩ => ⟨S32x256, .f32⟩
  | _, _ => ⟨S8192x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x65x13 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S544x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S352x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8192x65 : Shape := ⟨2, ![8192, 65]⟩
abbrev S8192x32 : Shape := ⟨2, ![8192, 32]⟩
abbrev S8192x512 : Shape := ⟨2, ![8192, 512]⟩
abbrev S8192x65x13 : Shape := ⟨3, ![8192, 65, 13]⟩
abbrev S512x1024 : Shape := ⟨2, ![512, 1024]⟩
abbrev S13x32 : Shape := ⟨2, ![13, 32]⟩
abbrev S32x48 : Shape := ⟨2, ![32, 48]⟩
abbrev S48 : Shape := ⟨1, ![48]⟩
abbrev S544x256 : Shape := ⟨2, ![544, 256]⟩
abbrev S16x32 : Shape := ⟨2, ![16, 32]⟩
abbrev S352x256 : Shape := ⟨2, ![352, 256]⟩
abbrev S8192x1024 : Shape := ⟨2, ![8192, 1024]⟩
abbrev S8192x32x32 : Shape := ⟨3, ![8192, 32, 32]⟩
abbrev S8192x65x32 : Shape := ⟨3, ![8192, 65, 32]⟩
abbrev S_ : Shape := ⟨0, ![]⟩
abbrev S8192x65x48 : Shape := ⟨3, ![8192, 65, 48]⟩
abbrev S1x1x48 : Shape := ⟨3, ![1, 1, 48]⟩
abbrev S8192x65x16 : Shape := ⟨3, ![8192, 65, 16]⟩
abbrev S8192x130x16 : Shape := ⟨3, ![8192, 130, 16]⟩
abbrev S8192x544 : Shape := ⟨2, ![8192, 544]⟩
abbrev S8192x256 : Shape := ⟨2, ![8192, 256]⟩
abbrev S8192x130 : Shape := ⟨2, ![8192, 130]⟩
abbrev S8192x130x1 : Shape := ⟨3, ![8192, 130, 1]⟩
abbrev S8192x65x1 : Shape := ⟨3, ![8192, 65, 1]⟩
abbrev S8192x16 : Shape := ⟨2, ![8192, 16]⟩
abbrev S8192 : Shape := ⟨1, ![8192]⟩
abbrev S8192x1 : Shape := ⟨2, ![8192, 1]⟩
abbrev S8192x352 : Shape := ⟨2, ![8192, 352]⟩

abbrev nBuf : Space → Nat
  | .hbm => 110
  | .vmem => 0
  | .smem => 0
  | _ => 0

abbrev bufTy : (tb : Table) → Fin (tcTables nBuf tb) → BufTy
  | .hbm, ⟨0, _⟩ => ⟨S8192x65, .f32⟩
  | .hbm, ⟨1, _⟩ => ⟨S8192x65, .f32⟩
  | .hbm, ⟨2, _⟩ => ⟨S8192x65, .f32⟩
  | .hbm, ⟨3, _⟩ => ⟨S8192x32, .f32⟩
  | .hbm, ⟨4, _⟩ => ⟨S8192x512, .f32⟩
  | .hbm, ⟨5, _⟩ => ⟨S8192x65x13, .f32⟩
  | .hbm, ⟨6, _⟩ => ⟨S512x1024, .f32⟩
  | .hbm, ⟨7, _⟩ => ⟨S13x32, .f32⟩
  | .hbm, ⟨8, _⟩ => ⟨S32x48, .f32⟩
  | .hbm, ⟨9, _⟩ => ⟨S48, .f32⟩
  | .hbm, ⟨10, _⟩ => ⟨S544x256, .f32⟩
  | .hbm, ⟨11, _⟩ => ⟨S16x32, .f32⟩
  | .hbm, ⟨12, _⟩ => ⟨S16x32, .f32⟩
  | .hbm, ⟨13, _⟩ => ⟨S16x32, .f32⟩
  | .hbm, ⟨14, _⟩ => ⟨S352x256, .f32⟩
  | .hbm, ⟨15, _⟩ => ⟨S8192x1024, .f32⟩
  | .hbm, ⟨16, _⟩ => ⟨S8192x32x32, .f32⟩
  | .hbm, ⟨17, _⟩ => ⟨S8192x65x32, .f32⟩
  | .hbm, ⟨18, _⟩ => ⟨S8192x65x32, .f32⟩
  | .hbm, ⟨19, _⟩ => ⟨S_, .f32⟩
  | .hbm, ⟨20, _⟩ => ⟨S8192x65x32, .f32⟩
  | .hbm, ⟨21, _⟩ => ⟨S8192x65x32, .f32⟩
  | .hbm, ⟨22, _⟩ => ⟨S8192x65x48, .f32⟩
  | .hbm, ⟨23, _⟩ => ⟨S1x1x48, .f32⟩
  | .hbm, ⟨24, _⟩ => ⟨S8192x65x48, .f32⟩
  | .hbm, ⟨25, _⟩ => ⟨S8192x65x48, .f32⟩
  | .hbm, ⟨26, _⟩ => ⟨S8192x65x16, .f32⟩
  | .hbm, ⟨27, _⟩ => ⟨S8192x65x16, .f32⟩
  | .hbm, ⟨28, _⟩ => ⟨S8192x65x16, .f32⟩
  | .hbm, ⟨29, _⟩ => ⟨S8192x130x16, .f32⟩
  | .hbm, ⟨30, _⟩ => ⟨S8192x544, .f32⟩
  | .hbm, ⟨31, _⟩ => ⟨S8192x256, .f32⟩
  | .hbm, ⟨32, _⟩ => ⟨S_, .f32⟩
  | .hbm, ⟨33, _⟩ => ⟨S8192x65, .f32⟩
  | .hbm, ⟨34, _⟩ => ⟨S8192x65, .i1⟩
  | .hbm, ⟨35, _⟩ => ⟨S8192x65, .i1⟩
  | .hbm, ⟨36, _⟩ => ⟨S_, .f32⟩
  | .hbm, ⟨37, _⟩ => ⟨S8192x65, .f32⟩
  | .hbm, ⟨38, _⟩ => ⟨S8192x65, .f32⟩
  | .hbm, ⟨39, _⟩ => ⟨S8192x130, .f32⟩
  | .hbm, ⟨40, _⟩ => ⟨S8192x130, .f32⟩
  | .hbm, ⟨41, _⟩ => ⟨S8192x130, .f32⟩
  | .hbm, ⟨42, _⟩ => ⟨S_, .f32⟩
  | .hbm, ⟨43, _⟩ => ⟨S8192x130, .f32⟩
  | .hbm, ⟨44, _⟩ => ⟨S8192x130, .f32⟩
  | .hbm, ⟨45, _⟩ => ⟨S_, .f32⟩
  | .hbm, ⟨46, _⟩ => ⟨S_, .f32⟩
  | .hbm, ⟨47, _⟩ => ⟨S8192x130, .f32⟩
  | .hbm, ⟨48, _⟩ => ⟨S8192x130, .f32⟩
  | .hbm, ⟨49, _⟩ => ⟨S8192x130, .f32⟩
  | .hbm, ⟨50, _⟩ => ⟨S8192x130, .f32⟩
  | .hbm, ⟨51, _⟩ => ⟨S8192x130x1, .f32⟩
  | .hbm, ⟨52, _⟩ => ⟨S8192x130x16, .f32⟩
  | .hbm, ⟨53, _⟩ => ⟨S8192x130x16, .f32⟩
  | .hbm, ⟨54, _⟩ => ⟨S8192x65x16, .f32⟩
  | .hbm, ⟨55, _⟩ => ⟨S8192x65x16, .f32⟩
  | .hbm, ⟨56, _⟩ => ⟨S_, .f32⟩
  | .hbm, ⟨57, _⟩ => ⟨S8192x65, .f32⟩
  | .hbm, ⟨58, _⟩ => ⟨S8192x65, .i1⟩
  | .hbm, ⟨59, _⟩ => ⟨S8192x65, .i1⟩
  | .hbm, ⟨60, _⟩ => ⟨S8192x65x1, .f32⟩
  | .hbm, ⟨61, _⟩ => ⟨S8192x65x16, .f32⟩
  | .hbm, ⟨62, _⟩ => ⟨S8192x65x16, .f32⟩
  | .hbm, ⟨63, _⟩ => ⟨S_, .f32⟩
  | .hbm, ⟨64, _⟩ => ⟨S8192x65x16, .f32⟩
  | .hbm, ⟨65, _⟩ => ⟨S8192x65x1, .i1⟩
  | .hbm, ⟨66, _⟩ => ⟨S8192x65x16, .i1⟩
  | .hbm, ⟨67, _⟩ => ⟨S8192x65x16, .f32⟩
  | .hbm, ⟨68, _⟩ => ⟨S_, .f32⟩
  | .hbm, ⟨69, _⟩ => ⟨S8192x16, .f32⟩
  | .hbm, ⟨70, _⟩ => ⟨S_, .i1⟩
  | .hbm, ⟨71, _⟩ => ⟨S8192, .i1⟩
  | .hbm, ⟨72, _⟩ => ⟨S8192x1, .i1⟩
  | .hbm, ⟨73, _⟩ => ⟨S_, .f32⟩
  | .hbm, ⟨74, _⟩ => ⟨S8192x16, .f32⟩
  | .hbm, ⟨75, _⟩ => ⟨S8192x16, .i1⟩
  | .hbm, ⟨76, _⟩ => ⟨S8192x16, .f32⟩
  | .hbm, ⟨77, _⟩ => ⟨S_, .f32⟩
  | .hbm, ⟨78, _⟩ => ⟨S8192x65x16, .f32⟩
  | .hbm, ⟨79, _⟩ => ⟨S8192x65x1, .i1⟩
  | .hbm, ⟨80, _⟩ => ⟨S8192x65x16, .i1⟩
  | .hbm, ⟨81, _⟩ => ⟨S8192x65x16, .f32⟩
  | .hbm, ⟨82, _⟩ => ⟨S_, .f32⟩
  | .hbm, ⟨83, _⟩ => ⟨S8192x16, .f32⟩
  | .hbm, ⟨84, _⟩ => ⟨S_, .i1⟩
  | .hbm, ⟨85, _⟩ => ⟨S8192, .i1⟩
  | .hbm, ⟨86, _⟩ => ⟨S8192x1, .i1⟩
  | .hbm, ⟨87, _⟩ => ⟨S_, .f32⟩
  | .hbm, ⟨88, _⟩ => ⟨S8192x16, .f32⟩
  | .hbm, ⟨89, _⟩ => ⟨S8192x16, .i1⟩
  | .hbm, ⟨90, _⟩ => ⟨S8192x16, .f32⟩
  | .hbm, ⟨91, _⟩ => ⟨S_, .f32⟩
  | .hbm, ⟨92, _⟩ => ⟨S8192x65x16, .f32⟩
  | .hbm, ⟨93, _⟩ => ⟨S8192x65x1, .i1⟩
  | .hbm, ⟨94, _⟩ => ⟨S8192x65x16, .i1⟩
  | .hbm, ⟨95, _⟩ => ⟨S8192x65x16, .f32⟩
  | .hbm, ⟨96, _⟩ => ⟨S_, .f32⟩
  | .hbm, ⟨97, _⟩ => ⟨S8192x16, .f32⟩
  | .hbm, ⟨98, _⟩ => ⟨S_, .i1⟩
  | .hbm, ⟨99, _⟩ => ⟨S8192, .i1⟩
  | .hbm, ⟨100, _⟩ => ⟨S8192x1, .i1⟩
  | .hbm, ⟨101, _⟩ => ⟨S_, .f32⟩
  | .hbm, ⟨102, _⟩ => ⟨S8192x16, .f32⟩
  | .hbm, ⟨103, _⟩ => ⟨S8192x16, .i1⟩
  | .hbm, ⟨104, _⟩ => ⟨S8192x16, .f32⟩
  | .hbm, ⟨105, _⟩ => ⟨S8192x32, .f32⟩
  | .hbm, ⟨106, _⟩ => ⟨S8192x32, .f32⟩
  | .hbm, ⟨107, _⟩ => ⟨S8192x32, .f32⟩
  | .hbm, ⟨108, _⟩ => ⟨S8192x352, .f32⟩
  | .hbm, ⟨109, _⟩ => ⟨S8192x256, .f32⟩
  | _, _ => ⟨S8192x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_call2_v0 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_c : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_call3_v0 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_call4_v0 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_c_9 : Ref sig .tc := ⟨.hbm, 84, rfl⟩
abbrev main_v51 : Ref sig .tc := ⟨.hbm, 85, rfl⟩
abbrev main_v52 : Ref sig .tc := ⟨.hbm, 86, rfl⟩
abbrev main_cst_10 : Ref sig .tc := ⟨.hbm, 87, rfl⟩
abbrev main_v53 : Ref sig .tc := ⟨.hbm, 88, rfl⟩
abbrev main_call5_v0 : Ref sig .tc := ⟨.hbm, 89, rfl⟩
abbrev main_v54 : Ref sig .tc := ⟨.hbm, 90, rfl⟩
abbrev main_cst_11 : Ref sig .tc := ⟨.hbm, 91, rfl⟩
abbrev main_v55 : Ref sig .tc := ⟨.hbm, 92, rfl⟩
abbrev main_v56 : Ref sig .tc := ⟨.hbm, 93, rfl⟩
abbrev main_call6_v0 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_c_13 : Ref sig .tc := ⟨.hbm, 98, rfl⟩
abbrev main_v59 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_call7_v0 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩

abbrev nD : Nat := 1
abbrev τ : Topo := Topo.v7x

variable {F : FTy → Type} [FloatOps F]
-- ==== Proof.Maths.lean ====
/- The mathematics of the table encoder over the real numbers: what one row of the result is,
   and the two facts about it that the kernel's way of computing it needs. No program is
   mentioned here. -/
module
public import Idealize.ShloMosaic.Lib.Pointwise

@[expose] public section

noncomputable section
namespace TableEncoder

/-- The fifteen inputs, as arrays of real numbers. -/
structure Tables where
  filter : Fin 8192 → Fin 65 → ℝ
  mask : Fin 8192 → Fin 65 → ℝ
  edge : Fin 8192 → Fin 65 → ℝ
  glob : Fin 8192 → Fin 32 → ℝ
  onehot : Fin 8192 → Fin 512 → ℝ
  others : Fin 8192 → Fin 65 → Fin 13 → ℝ
  embW : Fin 512 → Fin 1024 → ℝ
  schemaW : Fin 13 → Fin 32 → ℝ
  headW : Fin 32 → Fin 48 → ℝ
  headB : Fin 48 → ℝ
  onehotW : Fin 544 → Fin 256 → ℝ
  edgeW : Fin 16 → Fin 32 → ℝ
  leftW : Fin 16 → Fin 32 → ℝ
  rightW : Fin 16 → Fin 32 → ℝ
  tailW : Fin 352 → Fin 256 → ℝ

/-- The least value the argument of the logarithm is clipped to: `9007199 / 2 ^ 53`, the binary32
    number next to `1e-9`. -/
def least : ℝ := 9007199 / 2 ^ 53

/-- What the kernel takes away from a column that is not kept: `9860761 · 2 ^ 103`, the binary32
    number next to `1e38`. -/
def away : ℝ := 9860761 * 2 ^ 103

/-- The bound on every input that reaches the maximum over the columns. -/
def bound : ℝ := 65536

variable (T : Tables) (n : Fin 8192)

/-- The embedding of column `r` of row `n` before the rectifier, as the reference composes it: the
    schema projection of the column times the row's own 32 × 32 matrix. -/
def mixed (r : Fin 65) (k : Fin 32) : ℝ :=
  ∑ h : Fin 32, (∑ c : Fin 13, T.others n r c * T.schemaW c h)
    * ∑ s : Fin 512, T.onehot n s * T.embW s ⟨h * 32 + k, by omega⟩

/-- The same embedding as the kernel composes it: the weights folded into one table first. -/
def folded (r : Fin 65) (k : Fin 32) : ℝ :=
  ∑ c : Fin 13, T.others n r c * ∑ s : Fin 512, T.onehot n s
    * ∑ h : Fin 32, T.embW s ⟨h * 32 + k, by omega⟩ * T.schemaW c h

/-- The 48 heads of column `r`, before the bias. -/
def head (r : Fin 65) (j : Fin 48) : ℝ :=
  ∑ k : Fin 32, max (mixed T n r k) 0 * T.headW k j

/-- The logarithmic cost of a selected column. -/
def costLeft (r : Fin 65) : ℝ := -Real.log (max least (1 - T.filter n r * T.mask n r))

/-- The logarithmic cost of the complement of a selected column. -/
def costRight (r : Fin 65) : ℝ := -Real.log (max least (1 - (1 - T.filter n r) * T.mask n r))

/-- What scales head `j` of column `r`: the two costs for the first and second sixteen heads, the
    edge's weight for the last sixteen. -/
def scale (r : Fin 65) (j : Fin 48) : ℝ :=
  if j.val < 16 then costLeft T n r else if j.val < 32 then costRight T n r else T.edge n r

/-- The scaled head of a column, which the maximum is taken over. -/
def score (r : Fin 65) (j : Fin 48) : ℝ := (head T n r j + T.headB j) * scale T n r j

/-- The column counts for head `j`: the mask decides for the first 32 heads, the edge for the
    others. -/
def Kept (r : Fin 65) (j : Fin 48) : Prop :=
  if j.val < 32 then T.mask n r = 1 else 0 < T.edge n r

open Classical in
/-- The maximum of a head over the columns that count, as an extended real. -/
def peakE (j : Fin 48) : EReal :=
  Finset.univ.fold max ⊥ fun r : Fin 65 => if Kept T n r j then (score T n r j : EReal) else ⊥

/-- The maximum of a head over the columns that count. -/
def peak (j : Fin 48) : ℝ := (peakE T n j).toReal

/-- One entry of the result, as the reference composes it: the three aggregates and the row's own
    features, each through its weights, then all through the tail's weights. -/
def result (q : Fin 256) : ℝ :=
  (∑ h : Fin 32, (∑ j : Fin 16, peak T n ⟨32 + j, by omega⟩ * T.edgeW j h) * T.tailW ⟨h, by omega⟩ q)
    + (∑ h : Fin 32, (∑ j : Fin 16, peak T n ⟨j, by omega⟩ * T.leftW j h) * T.tailW ⟨32 + h, by omega⟩ q)
    + (∑ h : Fin 32, (∑ j : Fin 16, peak T n ⟨16 + j, by omega⟩ * T.rightW j h) * T.tailW ⟨64 + h, by omega⟩ q)
    + ∑ p : Fin 256, ((∑ s : Fin 512, T.onehot n s * T.onehotW ⟨s, by omega⟩ p)
        + ∑ g : Fin 32, T.glob n g * T.onehotW ⟨512 + g, by omega⟩ p) * T.tailW ⟨96 + p, by omega⟩ q

/-- What the proof asks of the inputs: the masks are zero or one, the edges are not negative,
    every row keeps a column for every head, and what reaches the maximum is bounded. -/
structure InRange : Prop where
  filter : ∀ n r, |T.filter n r| ≤ bound
  mask : ∀ n r, T.mask n r = 0 ∨ T.mask n r = 1
  edge_nonneg : ∀ n r, 0 ≤ T.edge n r
  edge : ∀ n r, |T.edge n r| ≤ bound
  some_mask : ∀ n, ∃ r, T.mask n r = 1
  some_edge : ∀ n, ∃ r, 0 < T.edge n r
  onehot : ∀ n s, |T.onehot n s| ≤ bound
  others : ∀ n r c, |T.others n r c| ≤ bound
  embW : ∀ s l, |T.embW s l| ≤ bound
  schemaW : ∀ c h, |T.schemaW c h| ≤ bound
  headW : ∀ k j, |T.headW k j| ≤ bound
  headB : ∀ j, |T.headB j| ≤ bound

/-! ## Folding the weights -/

/-- Folding the weights first changes nothing: the two ways to compose the embedding agree. -/
theorem folded_eq_mixed (r : Fin 65) (k : Fin 32) : folded T n r k = mixed T n r k := by
  unfold folded mixed
  simp only [Finset.mul_sum, Finset.sum_mul]
  rw [Finset.sum_comm' (t' := Finset.univ) (s' := fun _ => Finset.univ) (by simp)]
  rw [Finset.sum_congr rfl fun s _ => Finset.sum_comm]
  rw [Finset.sum_comm]
  refine Finset.sum_congr rfl fun h _ => ?_
  rw [Finset.sum_congr rfl fun s _ => rfl]
  refine Finset.sum_congr rfl fun s _ => Finset.sum_congr rfl fun c _ => ?_
  ring

/-- A product with a product of two matrices, one entry: the middle sum may be taken first. -/
theorem sum_mul_sum_assoc {a b : ℕ} (x : Fin a → ℝ) (w : Fin a → Fin b → ℝ) (v : Fin b → ℝ) :
    ∑ j, x j * ∑ h, w j h * v h = ∑ h, (∑ j, x j * w j h) * v h := by
  simp only [Finset.mul_sum, Finset.sum_mul]
  rw [Finset.sum_comm]
  exact Finset.sum_congr rfl fun h _ => Finset.sum_congr rfl fun j _ => by ring

/-- One entry of the result as the kernel composes it: every weight matrix is multiplied by its
    part of the tail's weights first. -/
theorem result_eq_folded (q : Fin 256) : result T n q =
    ((((∑ j : Fin 16, peak T n ⟨j, by omega⟩ * ∑ h : Fin 32, T.leftW j h * T.tailW ⟨32 + h, by omega⟩ q)
      + ∑ j : Fin 16, peak T n ⟨16 + j, by omega⟩ * ∑ h : Fin 32, T.rightW j h * T.tailW ⟨64 + h, by omega⟩ q)
      + ∑ j : Fin 16, peak T n ⟨32 + j, by omega⟩ * ∑ h : Fin 32, T.edgeW j h * T.tailW ⟨h, by omega⟩ q)
      + ∑ s : Fin 512, T.onehot n s * ∑ p : Fin 256, T.onehotW ⟨s, by omega⟩ p * T.tailW ⟨96 + p, by omega⟩ q)
      + ∑ g : Fin 32, T.glob n g * ∑ p : Fin 256, T.onehotW ⟨512 + g, by omega⟩ p * T.tailW ⟨96 + p, by omega⟩ q := by
  unfold result
  simp only [sum_mul_sum_assoc, add_mul, Finset.sum_add_distrib]
  ring

/-! ## The scores are small -/

/-- A sum of `N` terms none of which exceeds `B` in absolute value does not exceed `N · B`. -/
theorem abs_sum_le {N : ℕ} {f : Fin N → ℝ} {B : ℝ} (h : ∀ i, |f i| ≤ B) : |∑ i, f i| ≤ N * B :=
  (Finset.abs_sum_le_sum_abs _ _).trans
    ((Finset.sum_le_card_nsmul _ _ B fun i _ => h i).trans (by simp))

/-- A product of two bounded numbers is bounded by the product of the bounds. -/
theorem abs_mul_le {x y A B : ℝ} (hx : |x| ≤ A) (hy : |y| ≤ B) : |x * y| ≤ A * B := by
  rw [abs_mul]
  exact mul_le_mul hx hy (abs_nonneg y) ((abs_nonneg x).trans hx)

/-- The logarithm of a clipped number up to `65538` is at most `2 ^ 17` in absolute value. -/
theorem abs_log_clip_le {x : ℝ} (hx : x ≤ 65538) : |-Real.log (max least x)| ≤ 2 ^ 17 := by
  have hpos : 0 < least := by unfold least; positivity
  have hy : 0 < max least x := lt_max_of_lt_left hpos
  have hle : max least x ≤ 65538 := max_le (by unfold least; norm_num) hx
  rw [abs_neg, abs_le]
  constructor
  · have h1 : Real.log least ≤ Real.log (max least x) := Real.log_le_log hpos (le_max_left _ _)
    have h2 : -Real.log least ≤ 30 := by
      rw [← Real.log_inv]
      have h3 : least⁻¹ ≤ 2 ^ (30 : ℕ) := by unfold least; norm_num
      calc Real.log least⁻¹ ≤ Real.log (2 ^ (30 : ℕ)) := Real.log_le_log (inv_pos.mpr hpos) h3
        _ = 30 * Real.log 2 := by rw [Real.log_pow]; norm_num
        _ ≤ 30 * 1 := by
          have := Real.log_le_sub_one_of_pos (show (0 : ℝ) < 2 by norm_num)
          linarith
        _ = 30 := by norm_num
    norm_num
    linarith
  · have := Real.log_le_sub_one_of_pos hy
    norm_num
    linarith

variable {T} (hT : InRange T)
include hT

/-- No scale exceeds `2 ^ 17`. -/
theorem abs_scale_le (r : Fin 65) (j : Fin 48) : |scale T n r j| ≤ 2 ^ 17 := by
  have hf := abs_le.mp (hT.filter n r)
  unfold bound at hf
  unfold scale
  split
  · refine abs_log_clip_le ?_
    rcases hT.mask n r with h | h <;> rw [h] <;> linarith
  split
  · refine abs_log_clip_le ?_
    rcases hT.mask n r with h | h <;> rw [h] <;> linarith
  · exact (hT.edge n r).trans (by unfold bound; norm_num)

/-- No score exceeds half of what is taken away from a column that is not kept. -/
theorem abs_score_le (r : Fin 65) (j : Fin 48) : |score T n r j| ≤ away / 2 := by
  have hmix : ∀ k, |max (mixed T n r k) 0| ≤ 2 ^ 82 := fun k => by
    have h : |mixed T n r k| ≤ (32 : ℕ) * (((13 : ℕ) * (bound * bound)) * ((512 : ℕ) * (bound * bound))) :=
      abs_sum_le fun h => abs_mul_le
        (abs_sum_le fun c => abs_mul_le (hT.others n r c) (hT.schemaW c h))
        (abs_sum_le fun s => abs_mul_le (hT.onehot n s) (hT.embW s _))
    rw [abs_of_nonneg (le_max_right _ _)]
    refine max_le ((le_abs_self _).trans (h.trans ?_)) (by norm_num)
    unfold bound; norm_num
  have hhead : |head T n r j| ≤ (32 : ℕ) * (2 ^ 82 * bound) :=
    abs_sum_le fun k => abs_mul_le (hmix k) (hT.headW k j)
  have hsum : |head T n r j + T.headB j| ≤ 2 ^ 104 :=
    (abs_add_le _ _).trans ((add_le_add hhead (hT.headB j)).trans (by unfold bound; norm_num))
  exact (abs_mul_le hsum (abs_scale_le n hT r j)).trans (by unfold away; norm_num)

/-- For every head some column counts. -/
theorem exists_kept (j : Fin 48) : ∃ r, Kept T n r j := by
  unfold Kept
  by_cases h : j.val < 32
  · obtain ⟨r, hr⟩ := hT.some_mask n
    exact ⟨r, by rw [if_pos h]; exact hr⟩
  · obtain ⟨r, hr⟩ := hT.some_edge n
    exact ⟨r, by rw [if_neg h]; exact hr⟩

omit hT in
/-- A fold of `max` from the least element is at most `b` exactly when every term is. -/
theorem fold_max_le {ι : Type} [Fintype ι] (f : ι → EReal) (b : EReal) :
    Finset.univ.fold max ⊥ f ≤ b ↔ ∀ i, f i ≤ b := by
  rw [Finset.fold_max_le]; simp

omit hT in
/-- Every term is at most the fold of `max`. -/
theorem le_fold_max {ι : Type} [Fintype ι] (f : ι → EReal) (i : ι) :
    f i ≤ Finset.univ.fold max ⊥ f := (fold_max_le f _).mp le_rfl i

/-- The maximum over the columns that count is a real number. -/
theorem coe_peak (j : Fin 48) : (peak T n j : EReal) = peakE T n j := by
  classical
  refine EReal.coe_toReal ?_ ?_
  · refine ne_of_lt (lt_of_le_of_lt ((fold_max_le _ ((away / 2 : ℝ) : EReal)).mpr fun r => ?_)
      (EReal.coe_lt_top _))
    split
    · exact EReal.coe_le_coe_iff.mpr ((le_abs_self _).trans (abs_score_le n hT r j))
    · exact bot_le
  · obtain ⟨r, hr⟩ := exists_kept n hT j
    have h := le_fold_max (fun r : Fin 65 => if Kept T n r j then (score T n r j : EReal) else ⊥) r
    rw [if_pos hr] at h
    exact ne_of_gt (lt_of_lt_of_le (EReal.bot_lt_coe _) h)

/-- Taking a large number away from the columns that do not count leaves the maximum what it is
    over the columns that do: this is how the kernel masks. -/
theorem fold_away (j : Fin 48) (off : Fin 65 → ℝ) (hk : ∀ r, Kept T n r j → off r = 0)
    (hu : ∀ r, ¬ Kept T n r j → off r = -away) :
    Finset.univ.fold max ⊥ (fun r : Fin 65 => ((score T n r j + off r : ℝ) : EReal)) = peakE T n j := by
  classical
  refine le_antisymm ((fold_max_le _ _).mpr fun r => ?_) ((fold_max_le _ _).mpr fun r => ?_)
  · by_cases h : Kept T n r j
    · have := le_fold_max (fun r : Fin 65 => if Kept T n r j then (score T n r j : EReal) else ⊥) r
      rw [if_pos h] at this
      rw [hk r h, add_zero]
      exact this
    · obtain ⟨s, hs⟩ := exists_kept n hT j
      have := le_fold_max (fun r : Fin 65 => if Kept T n r j then (score T n r j : EReal) else ⊥) s
      rw [if_pos hs] at this
      refine le_trans ?_ this
      rw [hu r h, EReal.coe_le_coe_iff]
      have h1 := (abs_le.mp (abs_score_le n hT r j)).2
      have h2 := (abs_le.mp (abs_score_le n hT s j)).1
      linarith
  · split
    · rename_i h
      have := le_fold_max (fun r : Fin 65 => ((score T n r j + off r : ℝ) : EReal)) r
      rwa [hk r h, add_zero] at this
    · exact bot_le

end TableEncoder
-- ==== Proof.Words.lean ====
/- The binary32 words the two programs write as constants, read as extended reals, and how the
   operations of the extended reals act on real numbers. -/
module
public import Idealize.ShloMosaic.Lib.Pointwise
public import proofs.«01_k».proof.Proof.Maths

@[expose] public section

noncomputable section
namespace TableEncoder
open Idealize.ShloMosaic

/-! ## The constants -/

/-- The word of `65536`. -/
theorem word_bound : Ideal.ofBits .f32 0x47800000#32 = (bound : EReal) := by
  simp [Ideal.ofBits, Ideal.ieee, bound, -EReal.coe_mul]; norm_num

/-- The word of zero. -/
theorem word_zero : Ideal.ofBits .f32 0x00000000#32 = 0 := by
  simp [Ideal.ofBits, Ideal.ieee]

/-- The word of one. -/
theorem word_one : Ideal.ofBits .f32 0x3F800000#32 = 1 := by
  simp [Ideal.ofBits, Ideal.ieee, -EReal.coe_mul]; norm_num

/-- The word of positive infinity. -/
theorem word_top : Ideal.ofBits .f32 0x7F800000#32 = ⊤ := by
  simp [Ideal.ofBits, Ideal.ieee]

/-- The word of negative infinity. -/
theorem word_bot : Ideal.ofBits .f32 0xFF800000#32 = ⊥ := by
  simp [Ideal.ofBits, Ideal.ieee]

/-- The word next to `1e-9`. -/
theorem word_least : Ideal.ofBits .f32 0x3089705F#32 = (least : EReal) := by
  simp [Ideal.ofBits, Ideal.ieee, least, -EReal.coe_mul]; norm_num

/-- The word next to `1e38`. -/
theorem word_away : Ideal.ofBits .f32 0x7E967699#32 = (away : EReal) := by
  simp [Ideal.ofBits, Ideal.ieee, away, -EReal.coe_mul]

/-- The word next to `1e-38` is a real number (which one never matters: it is multiplied by zero). -/
theorem word_inverse : ∃ z : ℝ, Ideal.ofBits .f32 0x006CE3EE#32 = (z : EReal) := by
  simp [Ideal.ofBits, Ideal.ieee, -EReal.coe_mul]

/-! ## Real numbers among the extended reals -/

/-- The sum of real numbers, taken among the extended reals. -/
theorem coe_sum {ι : Type} [Fintype ι] (f : ι → ℝ) : ((∑ i, f i : ℝ) : EReal) = ∑ i, (f i : EReal) :=
  map_sum (⟨⟨Real.toEReal, rfl⟩, fun _ _ => rfl⟩ : ℝ →+ EReal) f Finset.univ

/-- The larger of two real numbers, taken among the extended reals. -/
theorem coe_max (x y : ℝ) : ((max x y : ℝ) : EReal) = max (x : EReal) (y : EReal) :=
  EReal.coe_strictMono.monotone.map_max

/-- The logarithm of a clipped real number is the real logarithm. -/
theorem log_clip (x : ℝ) : Ideal.log ((max least x : ℝ) : EReal) = (Real.log (max least x) : EReal) := by
  have : 0 < max least x := lt_max_of_lt_left (by unfold least; positivity)
  rw [Ideal.log_coe, if_neg (not_le.mpr this)]

end TableEncoder
-- ==== Proof.KernelBlock.lean ====
/- What one block of the kernel computes, at one row and one feature: every value the body stores,
   read at an index and then as a real number. -/
module
public import proofs.«01_k».proof.Proof.Gen.KernelIdeal.Skeleton
public import proofs.«01_k».proof.Proof.Words

@[expose] public section
set_option maxRecDepth 16384

noncomputable section
namespace Cert.KernelIdeal.Block
open Idealize.ShloMosaic TableEncoder Cert.KernelIdeal.Gen

/-! ## The selection table -/

/-- The selection table of the fold, over the bias it is given. -/
def table (x9 : Vec Ideal S1x48 .f32) : FVec Ideal S128x6x96 .f32 :=
  k0_pay11 (F := Ideal) (k0_pay10 (F := Ideal) (iota .tc S6x96 32 [0] iota_S6x96_d0_w32)
    (iota .tc S6x96 32 [1] iota_S6x96_d1_w32)
    (k0_pay8 (iota .tc S6x96 32 [0] iota_S6x96_d0_w32) (iota .tc S6x96 32 [1] iota_S6x96_d1_w32)
      k0_pay4 k0_pay5 k0_pay6 k0_pay7)
    (k0_pay9 (iota .tc S6x96 32 [0] iota_S6x96_d0_w32) (iota .tc S6x96 32 [1] iota_S6x96_d1_w32))
    (Scalar.ofBits .f32 0x3F800000#32) (Scalar.ofBits .f32 0x00000000#32) x9)

/-- A selection by a mask bit that is the truth value of `P` is a choice by `P`. -/
theorem select_of_word {α : Type} {w : BitVec 1} {P : Prop} [Decidable P] {x y : α}
    (h : w = BitVec.ofBool (decide P)) : Scalar.select w x y = if P then x else y := by
  subst h
  by_cases hP : P <;> simp [hP, Scalar.select]

/-- The selection table at an index: a one where the column's group is the row's, a one where the
    second half's group is the row's less three, and the bias where the second half's group is the
    row's and the row is one of the first three. -/
theorem table_at (x9 : Vec Ideal S1x48 .f32) (b : Fin 128) (k : Fin 6) (j : Fin 96) :
    table x9 (ix3 b k j) = (if j.val < 48 ∧ j.val / 16 = k.val then (1 : EReal) else 0)
      + (if 48 ≤ j.val ∧ (j.val - 48) / 16 + 3 = k.val then (1 : EReal) else 0)
      + (if 48 ≤ j.val ∧ (j.val - 48) / 16 = k.val ∧ k.val < 3 then
          (if h : j.val < 48 then (0 : EReal) else x9 (ix2 0 ⟨j.val - 48, by omega⟩)) else 0) := by
  unfold table
  pointwise [k0_pay11, k0_pay10, k0_pay8, k0_pay4, k0_pay5, k0_pay6, k0_pay7, k0_pay9]
  refine congrArg₂ (· + ·) (congrArg₂ (· + ·) (select_of_word ?_) (select_of_word ?_)) (select_of_word ?_)
  · clear x9 b; revert k j; decide +kernel
  · clear x9 b; revert k j; decide +kernel
  · clear x9 b; revert k j; decide +kernel

/-- The first half of the table picks the scale of head `j`. -/
theorem table_scale (x9 : Vec Ideal S1x48 .f32) (b : Fin 128) (k : Fin 6) (j : Fin 48) :
    table x9 (ix3 b k ⟨j.val, by omega⟩) = (((if j.val / 16 = k.val then 1 else 0 : ℝ)) : EReal) := by
  rw [table_at, if_neg (by omega : ¬ (48 ≤ j.val ∧ (j.val - 48) / 16 + 3 = k.val)),
    if_neg (by omega : ¬ (48 ≤ j.val ∧ (j.val - 48) / 16 = k.val ∧ k.val < 3)), add_zero, add_zero]
  by_cases h : j.val / 16 = k.val <;> simp [h]

/-- The second half of the table picks what is taken away from a column that does not count, and
    the scale once more, times the bias. -/
theorem table_offset {x9 : Vec Ideal S1x48 .f32} {T : Tables} (h9 : ∀ j, x9 (ix2 0 j) = (T.headB j : EReal))
    (b : Fin 128) (k : Fin 6) (j : Fin 48) :
    table x9 (ix3 b k ⟨48 + j.val, by omega⟩)
      = (((if j.val / 16 + 3 = k.val then 1 else 0)
          + (if j.val / 16 = k.val ∧ k.val < 3 then T.headB j else 0) : ℝ) : EReal) := by
  rw [table_at, if_neg (by omega : ¬ (48 + j.val < 48 ∧ (48 + j.val) / 16 = k.val)), zero_add]
  simp only [Nat.le_add_right, true_and, Nat.add_sub_cancel_left]
  rw [dif_neg (by omega : ¬ 48 + j.val < 48), h9, EReal.coe_add]
  congr 1
  · split <;> simp
  · split <;> simp

/-! ## The heads -/

variable {T : Tables} {n : Fin 8192} {b : Fin 128}
  {x0 x1 x2 : Vec Ideal S128x65 .f32} {x3 : Vec Ideal S128x32 .f32} {x4 : Vec Ideal S128x512 .bf16}
  {x5 : Vec Ideal S128x65x13 .bf16} {x6 : Vec Ideal S512x1024 .f32} {x7 : Vec Ideal S13x32 .f32}
  {x8 : Vec Ideal S32x48 .f32} {x9 : Vec Ideal S1x48 .f32} {x10 : Vec Ideal S544x256 .f32}
  {x11 x12 x13 : Vec Ideal S16x32 .f32} {y0 y1 y2 : Vec Ideal S32x256 .f32} {y3 : Vec Ideal S256x256 .f32}

/-- The heads of a column, through the folded weights, are the heads of the mathematics. -/
theorem head_at (h4 : ∀ s, x4 (ix2 b s) = (T.onehot n s : EReal))
    (h5 : ∀ r c, x5 (ix3 b r c) = (T.others n r c : EReal))
    (h6 : ∀ s l, x6 (ix2 s l) = (T.embW s l : EReal)) (h7 : ∀ c h, x7 (ix2 c h) = (T.schemaW c h : EReal))
    (h8 : ∀ k j, x8 (ix2 k j) = (T.headW k j : EReal)) (r : Fin 65) (j : Fin 48) :
    k0_pay18 (F := Ideal) x4 (k0_pay2 (F := Ideal) x6 x7) x5 (k0_pay3 (F := Ideal) x8) (ix3 b r j)
      = (head T n r j : EReal) := by
  pointwise [k0_pay18, k0_pay17, k0_pay2, k0_pay3]
  simp only [h4, h5, h6, h7, h8, ← EReal.coe_mul, ← coe_sum, ← EReal.coe_zero, ← coe_max]
  change ((∑ k : Fin 32, max (folded T n r k) 0 * T.headW k j : ℝ) : EReal) = _
  simp only [folded_eq_mixed]
  rfl

/-! ## The masked maximum -/

/-- What is taken away from column `r` for head `j`. -/
def off (T : Tables) (n : Fin 8192) (j : Fin 48) (r : Fin 65) : ℝ :=
  if j.val < 32 then (T.mask n r - 1) * away else ((if 0 < T.edge n r then 1 else 0) - 1) * away

/-- Nothing is taken away from a column that counts. -/
theorem off_kept (j : Fin 48) (r : Fin 65) (h : Kept T n r j) : off T n j r = 0 := by
  unfold Kept at h; unfold off
  split <;> simp_all

/-- The large number is taken away from a column that does not count. -/
theorem off_not_kept (hT : InRange T) (j : Fin 48) (r : Fin 65) (h : ¬ Kept T n r j) : off T n j r = -away := by
  unfold Kept at h; unfold off
  split
  · rw [if_pos ‹_›] at h
    rcases hT.mask n r with e | e
    · rw [e]; ring
    · exact absurd e h
  · rw [if_neg ‹_›] at h
    rw [if_neg h]; ring

/-- The number of a comparison's bit: one where an edge is positive, zero elsewhere. -/
theorem edge_bit (x : ℝ) : FloatOps.sitofp (F := Ideal) FTy.f32
    (BitVec.setWidth 32 (BitVec.ofBool (decide ((0 : EReal) < (x : EReal)))))
      = ((if 0 < x then 1 else 0 : ℝ) : EReal) := by
  by_cases h : 0 < x
  · rw [if_pos h, decide_eq_true (EReal.coe_pos.mpr h)]
    change (((BitVec.setWidth 32 (BitVec.ofBool true)).toInt : ℝ) : EReal) = _
    rw [show (BitVec.setWidth 32 (BitVec.ofBool true)).toInt = 1 from by decide]; norm_num
  · rw [if_neg h, decide_eq_false (fun e => h (EReal.coe_pos.mp e))]
    change (((BitVec.setWidth 32 (BitVec.ofBool false)).toInt : ℝ) : EReal) = _
    rw [show (BitVec.setWidth 32 (BitVec.ofBool false)).toInt = 0 from by decide]; norm_num

/-- The scale of the left heads, as the body computes it. -/
theorem left_at (h0 : ∀ r, x0 (ix2 b r) = (T.filter n r : EReal))
    (h1 : ∀ r, x1 (ix2 b r) = (T.mask n r : EReal)) (r : Fin 65) :
    k0_pay19 (F := Ideal) x0 x1 (ix2 b r) = (costLeft T n r : EReal) := by
  pointwise [k0_pay19]
  rw [word_least, h0, h1, ← EReal.coe_one, ← EReal.coe_mul, ← EReal.coe_sub, ← coe_max, log_clip,
    ← EReal.coe_zero, ← EReal.coe_sub, zero_sub]
  rfl

/-- What is read of the filter for the right heads. -/
theorem right_at (h0 : ∀ r, x0 (ix2 b r) = (T.filter n r : EReal))
    (h1 : ∀ r, x1 (ix2 b r) = (T.mask n r : EReal)) (r : Fin 65) :
    k0_pay20 (F := Ideal) x0 x1 (ix2 b r) = (((1 - T.filter n r) * T.mask n r : ℝ) : EReal) := by
  pointwise [k0_pay20]
  rw [h0, h1, ← EReal.coe_one, ← EReal.coe_sub, ← EReal.coe_mul]

/-- The body's constant one. -/
theorem one_at (r : Fin 65) : k0_pay21 (F := Ideal) (ix2 b r) = ((1 : ℝ) : EReal) := by
  pointwise [k0_pay21]
  rfl

/-- What a column that is masked out loses. -/
theorem mask_off_at (h1 : ∀ r, x1 (ix2 b r) = (T.mask n r : EReal)) (r : Fin 65) :
    k0_pay22 (F := Ideal) x1 (ix2 b r) = (((T.mask n r - 1) * away : ℝ) : EReal) := by
  pointwise [k0_pay22]
  rw [h1, word_away, ← EReal.coe_one, ← EReal.coe_sub, ← EReal.coe_mul]

/-- What a column without a positive edge loses. -/
theorem edge_off_at (h2 : ∀ r, x2 (ix2 b r) = (T.edge n r : EReal)) (r : Fin 65) :
    k0_pay23 (F := Ideal) x2 (ix2 b r) = ((((if 0 < T.edge n r then 1 else 0) - 1) * away : ℝ) : EReal) := by
  pointwise [k0_pay23]
  rw [h2, edge_bit, word_away, ← EReal.coe_one, ← EReal.coe_sub, ← EReal.coe_mul]

/-- The six rows the table selects from, for column `r`. -/
def rows (T : Tables) (n : Fin 8192) (r : Fin 65) : Fin 6 → ℝ :=
  ![costLeft T n r, costRight T n r, T.edge n r, (T.mask n r - 1) * away, (T.mask n r - 1) * away,
    ((if 0 < T.edge n r then 1 else 0) - 1) * away]

/-- Selecting the scale and adding the selected offset gives the score less what is taken away. -/
theorem rows_select (j : Fin 48) (r : Fin 65) :
    head T n r j * (∑ k : Fin 6, rows T n r k * (if j.val / 16 = k.val then 1 else 0))
      + ∑ k : Fin 6, rows T n r k * ((if j.val / 16 + 3 = k.val then 1 else 0)
          + (if j.val / 16 = k.val ∧ k.val < 3 then T.headB j else 0))
      = score T n r j + off T n j r := by
  have hj : j.val / 16 < 3 := by omega
  unfold score scale off rows
  generalize head T n r j = x
  generalize T.headB j = y
  simp only [Fin.sum_univ_six]
  rcases (by omega : j.val / 16 = 0 ∨ j.val / 16 = 1 ∨ j.val / 16 = 2) with e | e | e
  · have h1 : j.val < 16 := by omega
    have h2 : j.val < 32 := by omega
    simp [e, h1, h2]; ring
  · have h1 : ¬ j.val < 16 := by omega
    have h2 : j.val < 32 := by omega
    simp [e, h1, h2]; ring
  · have h1 : ¬ j.val < 16 := by omega
    have h2 : ¬ j.val < 32 := by omega
    simp [e, h1, h2]; ring

/-- The body's masked maximum for head `j` is the maximum over the columns that count. -/
theorem peak_at (hT : InRange T) (h0 : ∀ r, x0 (ix2 b r) = (T.filter n r : EReal))
    (h1 : ∀ r, x1 (ix2 b r) = (T.mask n r : EReal)) (h2 : ∀ r, x2 (ix2 b r) = (T.edge n r : EReal))
    (h9 : ∀ j, x9 (ix2 0 j) = (T.headB j : EReal)) {v : FVec Ideal S128x65x48 .f32}
    (hv : ∀ r j, v (ix3 b r j) = (head T n r j : EReal)) (j : Fin 48) :
    k0_pay24 (F := Ideal) v x1 x2 (k0_pay19 (F := Ideal) x0 x1) (k0_pay20 (F := Ideal) x0 x1)
      (k0_pay21 (F := Ideal)) (table x9) (ix2 b j) = (peak T n j : EReal) := by
  rw [coe_peak n hT, ← fold_away n hT j (off T n j) (off_kept j) (off_not_kept hT j)]
  have e19 := left_at (T := T) (n := n) h0 h1
  have e20 := right_at (T := T) (n := n) h0 h1
  have e21 := one_at (b := b)
  have e22 := mask_off_at (T := T) (n := n) h1
  have e23 := edge_off_at (T := T) (n := n) h2
  have t1 := table_scale x9 b
  have t2 := table_offset h9 b
  unfold k0_pay24
  generalize k0_pay19 (F := Ideal) x0 x1 = p19 at *
  generalize k0_pay20 (F := Ideal) x0 x1 = p20 at *
  generalize k0_pay21 (F := Ideal) = p21 at *
  generalize k0_pay22 (F := Ideal) x1 = p22 at *
  generalize k0_pay23 (F := Ideal) x2 = p23 at *
  generalize table x9 = tab at *
  pointwise []
  rw [word_bot, word_least]
  refine congrArg (fun f => Finset.fold max ⊥ f Finset.univ) (funext fun r => ?_)
  simp only [Fin.sum_univ_six]
  simp (disch := omega) only [dif_pos, dif_neg, Fin.isValue, Fin.coe_ofNat_eq_mod, Nat.reduceMod, Nat.reduceMul, Nat.sub_sub, Nat.reduceAdd, Nat.add_sub_cancel_left, Nat.zero_mul, Nat.zero_add, Fin.eta]
  simp only [e19, e20, e21, e22, e23, hv, h2, t1, t2, ← EReal.coe_mul, ← EReal.coe_sub, ← coe_max, ← EReal.coe_zero, ← EReal.coe_add, log_clip]
  rw [← rows_select, Fin.sum_univ_six, Fin.sum_univ_six, zero_sub]
  rfl

/-- The largest of real numbers that are at most zero, one of them zero, is zero. -/
theorem fold_max_zero {f : Fin 65 → ℝ} (hf : ∀ r, f r ≤ 0) (h : ∃ r, f r = 0) :
    Finset.fold max (⊥ : EReal) (fun r => (f r : EReal)) Finset.univ = 0 := by
  obtain ⟨r, hr⟩ := h
  refine le_antisymm ((fold_max_le _ _).mpr fun r => by exact_mod_cast hf r) ?_
  have := le_fold_max (fun r => (f r : EReal)) r
  simp only [hr, EReal.coe_zero] at this
  exact this

/-- The factor for rows that keep a column is one. -/
theorem any_mask_at (hT : InRange T) (h1 : ∀ r, x1 (ix2 b r) = (T.mask n r : EReal)) (k : Fin 32) :
    k0_pay25 (F := Ideal) x1 (ix2 b k) = ((1 : ℝ) : EReal) := by
  have e22 := mask_off_at (T := T) (n := n) h1
  unfold k0_pay25
  generalize k0_pay22 (F := Ideal) x1 = p22 at *
  pointwise []
  obtain ⟨z, hz⟩ := word_inverse
  rw [word_bot, hz]
  simp only [e22]
  rw [fold_max_zero, zero_mul, add_zero, EReal.coe_one]
  · intro r
    have : (0 : ℝ) < away := by unfold away; positivity
    rcases hT.mask n r with e | e <;> rw [e] <;> nlinarith
  · obtain ⟨r, hr⟩ := hT.some_mask n
    exact ⟨r, by rw [hr]; ring⟩

/-- The factor for rows that have a positive edge is one. -/
theorem any_edge_at (hT : InRange T) (h2 : ∀ r, x2 (ix2 b r) = (T.edge n r : EReal)) (k : Fin 1) :
    k0_pay26 (F := Ideal) x2 (ix2 b k) = ((1 : ℝ) : EReal) := by
  have e23 := edge_off_at (T := T) (n := n) h2
  unfold k0_pay26
  generalize k0_pay23 (F := Ideal) x2 = p23 at *
  pointwise []
  obtain ⟨z, hz⟩ := word_inverse
  rw [word_bot, hz]
  simp only [e23]
  rw [fold_max_zero, zero_mul, add_zero, EReal.coe_one]
  · intro r
    have : (0 : ℝ) < away := by unfold away; positivity
    split <;> nlinarith
  · obtain ⟨r, hr⟩ := hT.some_edge n
    exact ⟨r, by rw [if_pos hr]; ring⟩

/-! ## The folded tail weights -/

/-- The rows of the folded tail for the left heads. -/
theorem agg_left (h12 : ∀ j h, x12 (ix2 j h) = (T.leftW j h : EReal))
    (hy1 : ∀ h q, y1 (ix2 h q) = (T.tailW ⟨32 + h.val, by omega⟩ q : EReal)) (k : Fin 16) (q : Fin 256) :
    k0_pay12 (F := Ideal) x12 y1 x13 y2 x11 y0 (ix2 ⟨k.val, by omega⟩ q)
      = ((∑ h : Fin 32, T.leftW k h * T.tailW ⟨32 + h, by omega⟩ q : ℝ) : EReal) := by
  pointwise [k0_pay12]
  simp only [h12, hy1, ← EReal.coe_mul, ← coe_sum]

/-- The rows of the folded tail for the right heads. -/
theorem agg_right (h13 : ∀ j h, x13 (ix2 j h) = (T.rightW j h : EReal))
    (hy2 : ∀ h q, y2 (ix2 h q) = (T.tailW ⟨64 + h.val, by omega⟩ q : EReal)) (k : Fin 16) (q : Fin 256) :
    k0_pay12 (F := Ideal) x12 y1 x13 y2 x11 y0 (ix2 ⟨16 + k.val, by omega⟩ q)
      = ((∑ h : Fin 32, T.rightW k h * T.tailW ⟨64 + h, by omega⟩ q : ℝ) : EReal) := by
  pointwise [k0_pay12]
  simp only [h13, hy2, ← EReal.coe_mul, ← coe_sum]

/-- The rows of the folded tail for the edge heads. -/
theorem agg_edge (h11 : ∀ j h, x11 (ix2 j h) = (T.edgeW j h : EReal))
    (hy0 : ∀ h q, y0 (ix2 h q) = (T.tailW ⟨h.val, by omega⟩ q : EReal)) (k : Fin 16) (q : Fin 256) :
    k0_pay12 (F := Ideal) x12 y1 x13 y2 x11 y0 (ix2 ⟨32 + k.val, by omega⟩ q)
      = ((∑ h : Fin 32, T.edgeW k h * T.tailW ⟨h, by omega⟩ q : ℝ) : EReal) := by
  pointwise [k0_pay12]
  rw [dif_neg (by omega), dif_neg (by omega)]
  simp only [Nat.sub_sub, Nat.reduceAdd, Nat.add_sub_cancel_left, h11, hy0, ← EReal.coe_mul, ← coe_sum]

/-- The folded tail for the one-hot columns. -/
theorem tail_onehot (h10 : ∀ s p, x10 (ix2 s p) = (T.onehotW s p : EReal))
    (hy3 : ∀ p q, y3 (ix2 p q) = (T.tailW ⟨96 + p.val, by omega⟩ q : EReal)) (s : Fin 512) (q : Fin 256) :
    k0_pay14 (F := Ideal) x10 y3 (ix2 s q)
      = ((∑ p : Fin 256, T.onehotW ⟨s, by omega⟩ p * T.tailW ⟨96 + p, by omega⟩ q : ℝ) : EReal) := by
  pointwise [k0_pay14, k0_pay13]
  simp only [h10, hy3, ← EReal.coe_mul, ← coe_sum]

/-- The folded tail for the global columns. -/
theorem tail_glob (h10 : ∀ s p, x10 (ix2 s p) = (T.onehotW s p : EReal))
    (hy3 : ∀ p q, y3 (ix2 p q) = (T.tailW ⟨96 + p.val, by omega⟩ q : EReal)) (g : Fin 32) (q : Fin 256) :
    k0_pay16 (F := Ideal) (k0_pay15 (F := Ideal) x10 y3) (ix2 g q)
      = ((∑ p : Fin 256, T.onehotW ⟨512 + g, by omega⟩ p * T.tailW ⟨96 + p, by omega⟩ q : ℝ) : EReal) := by
  pointwise [k0_pay16, k0_pay15, k0_pay13]
  simp only [h10, hy3, ← EReal.coe_mul, ← coe_sum]

/-! ## The block -/

/-- A sum of thirty-two is a sum of sixteen and a sum of sixteen. -/
theorem sum_halves (f : Fin 32 → EReal) :
    ∑ k, f k = ∑ k : Fin 16, f ⟨k.val, by omega⟩ + ∑ k : Fin 16, f ⟨16 + k.val, by omega⟩ :=
  Fin.sum_univ_add (a := 16) (b := 16) f

/-- The last of the body's values, over peaks, factors and folded weights that are known. -/
theorem tail_at {v4 : FVec Ideal S128x512 .bf16} {v57 : FVec Ideal S128x48 .f32} {v71 : FVec Ideal S128x32 .f32}
    {v72 : FVec Ideal S128x1 .f32} {v76 : Vec Ideal S48x256 .f32} {v78 : Vec Ideal S512x256 .bf16}
    {v82 : Vec Ideal S32x256 .f32} (q : Fin 256) (h57 : ∀ j, v57 (ix2 b j) = (peak T n j : EReal))
    (h71 : ∀ k, v71 (ix2 b k) = ((1 : ℝ) : EReal)) (h72 : ∀ k, v72 (ix2 b k) = ((1 : ℝ) : EReal))
    (hl : ∀ k : Fin 16, v76 (ix2 ⟨k.val, by omega⟩ q)
      = ((∑ h : Fin 32, T.leftW k h * T.tailW ⟨32 + h, by omega⟩ q : ℝ) : EReal))
    (hr : ∀ k : Fin 16, v76 (ix2 ⟨16 + k.val, by omega⟩ q)
      = ((∑ h : Fin 32, T.rightW k h * T.tailW ⟨64 + h, by omega⟩ q : ℝ) : EReal))
    (he : ∀ k : Fin 16, v76 (ix2 ⟨32 + k.val, by omega⟩ q)
      = ((∑ h : Fin 32, T.edgeW k h * T.tailW ⟨h, by omega⟩ q : ℝ) : EReal))
    (h4 : ∀ s, v4 (ix2 b s) = (T.onehot n s : EReal))
    (h78 : ∀ s, v78 (ix2 s q)
      = ((∑ p : Fin 256, T.onehotW ⟨s, by omega⟩ p * T.tailW ⟨96 + p, by omega⟩ q : ℝ) : EReal))
    (h3 : ∀ g, x3 (ix2 b g) = (T.glob n g : EReal))
    (h82 : ∀ g, v82 (ix2 g q)
      = ((∑ p : Fin 256, T.onehotW ⟨512 + g, by omega⟩ p * T.tailW ⟨96 + p, by omega⟩ q : ℝ) : EReal)) :
    k0_pay1 (F := Ideal) v4 v57 v71 v72 v76 v78 x3 v82 (ix2 b q) = (result T n q : EReal) := by
  pointwise [k0_pay1]
  rw [sum_halves]
  simp only [h57, h71, h72, hl, hr, he, h4, h78, h3, h82, ← EReal.coe_mul, ← coe_sum, ← EReal.coe_add, mul_one]
  rw [result_eq_folded]

/-- THE BLOCK: what the body leaves in its output block at row `b` and feature `q` is the result of
    the mathematics for the row the block's inputs hold. -/
theorem block_at (hT : InRange T) (h0 : ∀ r, x0 (ix2 b r) = (T.filter n r : EReal))
    (h1 : ∀ r, x1 (ix2 b r) = (T.mask n r : EReal)) (h2 : ∀ r, x2 (ix2 b r) = (T.edge n r : EReal))
    (h3 : ∀ g, x3 (ix2 b g) = (T.glob n g : EReal)) (h4 : ∀ s, x4 (ix2 b s) = (T.onehot n s : EReal))
    (h5 : ∀ r c, x5 (ix3 b r c) = (T.others n r c : EReal))
    (h6 : ∀ s l, x6 (ix2 s l) = (T.embW s l : EReal)) (h7 : ∀ c h, x7 (ix2 c h) = (T.schemaW c h : EReal))
    (h8 : ∀ k j, x8 (ix2 k j) = (T.headW k j : EReal)) (h9 : ∀ j, x9 (ix2 0 j) = (T.headB j : EReal))
    (h10 : ∀ s p, x10 (ix2 s p) = (T.onehotW s p : EReal))
    (h11 : ∀ j h, x11 (ix2 j h) = (T.edgeW j h : EReal)) (h12 : ∀ j h, x12 (ix2 j h) = (T.leftW j h : EReal))
    (h13 : ∀ j h, x13 (ix2 j h) = (T.rightW j h : EReal))
    (hy0 : ∀ h q, y0 (ix2 h q) = (T.tailW ⟨h.val, by omega⟩ q : EReal))
    (hy1 : ∀ h q, y1 (ix2 h q) = (T.tailW ⟨32 + h.val, by omega⟩ q : EReal))
    (hy2 : ∀ h q, y2 (ix2 h q) = (T.tailW ⟨64 + h.val, by omega⟩ q : EReal))
    (hy3 : ∀ p q, y3 (ix2 p q) = (T.tailW ⟨96 + p.val, by omega⟩ q : EReal)) (q : Fin 256) :
    k0_pay1 (F := Ideal) (k0_pay17 (F := Ideal) x4)
      (k0_pay24 (F := Ideal) (k0_pay18 (F := Ideal) x4 (k0_pay2 (F := Ideal) x6 x7) x5 (k0_pay3 (F := Ideal) x8))
        x1 x2 (k0_pay19 (F := Ideal) x0 x1) (k0_pay20 (F := Ideal) x0 x1) (k0_pay21 (F := Ideal)) (table x9))
      (k0_pay25 (F := Ideal) x1) (k0_pay26 (F := Ideal) x2)
      (k0_pay12 (F := Ideal) x12 y1 x13 y2 x11 y0) (k0_pay14 (F := Ideal) x10 y3) x3
      (k0_pay16 (F := Ideal) (k0_pay15 (F := Ideal) x10 y3)) (ix2 b q) = (result T n q : EReal) := by
  refine tail_at q (peak_at hT h0 h1 h2 h9 (head_at h4 h5 h6 h7 h8)) (any_mask_at hT h1) (any_edge_at hT h2)
    (fun k => agg_left h12 hy1 k q) (fun k => agg_right h13 hy2 k q) (fun k => agg_edge h11 hy0 k q)
    (fun s => ?_) (fun s => tail_onehot h10 hy3 s q) h3 (fun g => tail_glob h10 hy3 g q)
  pointwise [k0_pay17]
  exact h4 s

end Cert.KernelIdeal.Block
-- ==== Proof.Arrays.lean ====
/- The fifteen argument arrays as arrays of real numbers. -/
module
public import proofs.«01_k».proof.Proof.Words

@[expose] public section

noncomputable section
namespace TableEncoder
open Idealize.ShloMosaic

/-- The argument arrays, in the order of the arguments, hold the real numbers of `T`. -/
structure Holds (T : Tables)
    (filter mask edge : FVec Ideal ⟨2, ![8192, 65]⟩ .f32) (glob : FVec Ideal ⟨2, ![8192, 32]⟩ .f32)
    (onehot : FVec Ideal ⟨2, ![8192, 512]⟩ .f32) (others : FVec Ideal ⟨3, ![8192, 65, 13]⟩ .f32)
    (embW : FVec Ideal ⟨2, ![512, 1024]⟩ .f32) (schemaW : FVec Ideal ⟨2, ![13, 32]⟩ .f32)
    (headW : FVec Ideal ⟨2, ![32, 48]⟩ .f32) (headB : FVec Ideal ⟨1, ![48]⟩ .f32)
    (onehotW : FVec Ideal ⟨2, ![544, 256]⟩ .f32) (edgeW leftW rightW : FVec Ideal ⟨2, ![16, 32]⟩ .f32)
    (tailW : FVec Ideal ⟨2, ![352, 256]⟩ .f32) : Prop where
  filter : ∀ n r, filter (ix2 n r) = (T.filter n r : EReal)
  mask : ∀ n r, mask (ix2 n r) = (T.mask n r : EReal)
  edge : ∀ n r, edge (ix2 n r) = (T.edge n r : EReal)
  glob : ∀ n g, glob (ix2 n g) = (T.glob n g : EReal)
  onehot : ∀ n s, onehot (ix2 n s) = (T.onehot n s : EReal)
  others : ∀ n r k, others (ix3 n r k) = (T.others n r k : EReal)
  embW : ∀ s l, embW (ix2 s l) = (T.embW s l : EReal)
  schemaW : ∀ k h, schemaW (ix2 k h) = (T.schemaW k h : EReal)
  headW : ∀ k j, headW (ix2 k j) = (T.headW k j : EReal)
  headB : ∀ j, headB (ix1 j) = (T.headB j : EReal)
  onehotW : ∀ s p, onehotW (ix2 s p) = (T.onehotW s p : EReal)
  edgeW : ∀ j h, edgeW (ix2 j h) = (T.edgeW j h : EReal)
  leftW : ∀ j h, leftW (ix2 j h) = (T.leftW j h : EReal)
  rightW : ∀ j h, rightW (ix2 j h) = (T.rightW j h : EReal)
  tailW : ∀ p q, tailW (ix2 p q) = (T.tailW p q : EReal)

end TableEncoder
-- ==== Proof.KernelArray.lean ====
/- What the kernel's result array holds: the scratch through the grid's points, the blocks of the
   arguments, and the array at an index. -/
module
public import proofs.«01_k».proof.Proof.Gen.KernelIdeal.Value
public import proofs.«01_k».proof.Proof.KernelBlock
public import proofs.«01_k».proof.Proof.Arrays
public import Idealize.ShloMosaic.Lib.Pipeline.ValueKit
public import Idealize.ShloMosaic.Lib.Pipeline.ValueKit.Held
public import Idealize.ShloMosaic.Lib.Pipeline.ReadBack

@[expose] public section
set_option maxRecDepth 16384

noncomputable section
namespace Cert.KernelIdeal.Sweep
open Idealize.ShloMosaic Idealize.ShloMosaic.TcCoe Idealize.SL.Sem TableEncoder Cert.KernelIdeal.Gen

variable (m : (ℓ : Loc nD τ sig) → Buf (Elt Ideal) ℓ)

/-! ## What a point holds -/

/-- The scratch the first point fills, over the weights' blocks at point `t`. -/
def folds (c : Dev nD) (t : Fin cfg0.N) : Vec Ideal S512x416 .bf16 × Vec Ideal S128x32x48 .f32
    × Vec Ideal S128x6x96 .f32 × Vec Ideal S48x256 .f32 × Vec Ideal S512x256 .bf16 × Vec Ideal S32x256 .f32 :=
  (k0_pay2 (F := Ideal) (iblk m c 6 t) (iblk m c 7 t), k0_pay3 (F := Ideal) (iblk m c 8 t),
    Block.table (iblk m c 9 t),
    k0_pay12 (F := Ideal) (iblk m c 12 t)
      (View.ld (iblk m c 14 t) (Rect.unit ![32, 0] ![32, 256] inb_S352x256_S32x256_32_0)) (iblk m c 13 t)
      (View.ld (iblk m c 14 t) (Rect.unit ![64, 0] ![32, 256] inb_S352x256_S32x256_64_0)) (iblk m c 11 t)
      (View.ld (iblk m c 14 t) (Rect.unit ![0, 0] ![32, 256] inb_S352x256_S32x256_0_0)),
    k0_pay14 (F := Ideal) (iblk m c 10 t)
      (View.ld (iblk m c 14 t) (Rect.unit ![96, 0] ![256, 256] inb_S352x256_S256x256_96_0)),
    k0_pay16 (F := Ideal) (k0_pay15 (F := Ideal) (iblk m c 10 t)
      (View.ld (iblk m c 14 t) (Rect.unit ![96, 0] ![256, 256] inb_S352x256_S256x256_96_0))))

/-- A point's output block, over its input blocks and the scratch it finds. -/
def block (c : Dev nD) (t : Fin cfg0.N) (s : Vec Ideal S512x416 .bf16 × Vec Ideal S128x32x48 .f32
    × Vec Ideal S128x6x96 .f32 × Vec Ideal S48x256 .f32 × Vec Ideal S512x256 .bf16 × Vec Ideal S32x256 .f32) :
    Vec Ideal S128x256 .f32 :=
  k0_pay1 (F := Ideal) (k0_pay17 (F := Ideal) (iblk m c 4 t))
    (k0_pay24 (F := Ideal) (k0_pay18 (F := Ideal) (iblk m c 4 t) s.1 (iblk m c 5 t) s.2.1)
      (iblk m c 1 t) (iblk m c 2 t) (k0_pay19 (F := Ideal) (iblk m c 0 t) (iblk m c 1 t))
      (k0_pay20 (F := Ideal) (iblk m c 0 t) (iblk m c 1 t)) (k0_pay21 (F := Ideal)) s.2.2.1)
    (k0_pay25 (F := Ideal) (iblk m c 1 t)) (k0_pay26 (F := Ideal) (iblk m c 2 t)) s.2.2.2.1 s.2.2.2.2.1
    (iblk m c 3 t) s.2.2.2.2.2

/-- The first point fills the scratch. -/
theorem scratch_first (c : Dev nD) (t : Fin cfg0.N) (h : t.val % 64 = 0) :
    (outsAt0 m c t.val t.isLt).2 = folds m c t := by
  rw [outsAt0_A m c t h]
  frame_out
  rfl

/-- Every later point leaves the scratch as it finds it. -/
theorem scratch_later (c : Dev nD) (t : Fin cfg0.N) (h : ¬ t.val % 64 = 0) :
    (outsAt0 m c t.val t.isLt).2
      = (outsAt0 m c (t.val - 1) (Nat.lt_of_le_of_lt (Nat.sub_le _ _) t.isLt)).2 := by
  rw [outsAt0_B m c t h]
  rfl

/-- The first point of the grid. -/
abbrev start : Fin cfg0.N := ⟨0, by rw [show cfg0.N = 64 from N_0]; decide⟩

/-- So the scratch holds the folded weights after every point. -/
theorem scratch_eq (c : Dev nD) (t : Fin cfg0.N) : (outsAt0 m c t.val t.isLt).2 = folds m c start := by
  rw [Pipeline.eq_of_write_hold (fun n h => (outsAt0 m c n h).2) 64 (folds m c) (scratch_first m c)
    (scratch_later m c) t]
  have hN : cfg0.N = 64 := N_0
  have := t.isLt
  exact congrArg (folds m c) (Fin.ext (by show 64 * (t.val / 64) = 0; omega))

/-- Every point leaves, in its output block, its value over the folded weights. -/
theorem out_eq (c : Dev nD) (t : Fin cfg0.N) :
    (outsAt0 m c t.val t.isLt).1 = block m c t (folds m c start) := by
  by_cases h : t.val % 64 = 0
  · have hN : cfg0.N = 64 := N_0
    have := t.isLt
    obtain rfl : t = start := Fin.ext (by show t.val = 0; omega)
    rw [outsAt0_A m c start h]
    frame_out
    rfl
  · rw [← scratch_eq m c ⟨t.val - 1, Nat.lt_of_le_of_lt (Nat.sub_le _ _) t.isLt⟩, outsAt0_B m c t h]
    frame_out
    simp only [read_unread_whole]
    rfl

/-! ## The blocks of the arguments -/

variable (c : Dev nD) (t : Fin cfg0.N)

/-- Row `b` of a point's blocks is a row of the arrays. -/
theorem row_lt (b : Fin 128) : 128 * t.val + b.val < 8192 := by
  have hN : cfg0.N = 64 := N_0
  have := t.isLt
  omega

/-! Where the windows' blocks lie: a block of rows moves with the point, a whole array stays. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

/-- A block of the filter. -/
theorem filter_block (b : Fin 128) (r : Fin 65) : (iblk m c 0 t : Vec Ideal S128x65 .f32) (ix2 b r)
    = m ((c : Thread nD τ).loc main_arg0) (ix2 ⟨128 * t.val + b.val, row_lt t b⟩ r) := by
  blk_ext [iblk, V, idx0 t]

/-- A block of the mask. -/
theorem mask_block (b : Fin 128) (r : Fin 65) : (iblk m c 1 t : Vec Ideal S128x65 .f32) (ix2 b r)
    = m ((c : Thread nD τ).loc main_arg1) (ix2 ⟨128 * t.val + b.val, row_lt t b⟩ r) := by
  blk_ext [iblk, V, idx1 t]

/-- A block of the edges. -/
theorem edge_block (b : Fin 128) (r : Fin 65) : (iblk m c 2 t : Vec Ideal S128x65 .f32) (ix2 b r)
    = m ((c : Thread nD τ).loc main_arg2) (ix2 ⟨128 * t.val + b.val, row_lt t b⟩ r) := by
  blk_ext [iblk, V, idx2 t]

/-- A block of the global columns. -/
theorem glob_block (b : Fin 128) (g : Fin 32) : (iblk m c 3 t : Vec Ideal S128x32 .f32) (ix2 b g)
    = m ((c : Thread nD τ).loc main_arg3) (ix2 ⟨128 * t.val + b.val, row_lt t b⟩ g) := by
  blk_ext [iblk, V, idx3 t]

/-- A block of the one-hot columns: rounding to the short format changes nothing here. -/
theorem onehot_block (b : Fin 128) (s : Fin 512) : (iblk m c 4 t : Vec Ideal S128x512 .bf16) (ix2 b s)
    = m ((c : Thread nD τ).loc main_arg4) (ix2 ⟨128 * t.val + b.val, row_lt t b⟩ s) := by
  blk_ext! [iblk, V, idx4 t]

/-- A block of the other columns: rounding to the short format changes nothing here. -/
theorem others_block (b : Fin 128) (r : Fin 65) (k : Fin 13) : (iblk m c 5 t : Vec Ideal S128x65x13 .bf16) (ix3 b r k)
    = m ((c : Thread nD τ).loc main_arg5) (ix3 ⟨128 * t.val + b.val, row_lt t b⟩ r k) := by
  blk_ext! [iblk, V, idx5 t]

/-- The embedding, whole. -/
theorem embW_block (i : Fin 512) (j : Fin 1024) : (iblk m c 6 t : Vec Ideal S512x1024 .f32) (ix2 i j)
    = m ((c : Thread nD τ).loc main_arg6) (ix2 i j) := by
  blk_ext [iblk, V, idx6 t]

/-- The schema weights, whole. -/
theorem schemaW_block (i : Fin 13) (j : Fin 32) : (iblk m c 7 t : Vec Ideal S13x32 .f32) (ix2 i j)
    = m ((c : Thread nD τ).loc main_arg7) (ix2 i j) := by
  blk_ext [iblk, V, idx7 t]

/-- The head weights, whole. -/
theorem headW_block (i : Fin 32) (j : Fin 48) : (iblk m c 8 t : Vec Ideal S32x48 .f32) (ix2 i j)
    = m ((c : Thread nD τ).loc main_arg8) (ix2 i j) := by
  blk_ext [iblk, V, idx8 t]

/-- The bias, whole: one row of it. -/
theorem headB_block (j : Fin 48) : (iblk m c 9 t : Vec Ideal S1x48 .f32) (ix2 0 j)
    = m ((c : Thread nD τ).loc main_arg9) (ix1 j) := by
  blk_ext! [iblk, V, idx9 t]

/-- The one-hot weights, whole. -/
theorem onehotW_block (i : Fin 544) (j : Fin 256) : (iblk m c 10 t : Vec Ideal S544x256 .f32) (ix2 i j)
    = m ((c : Thread nD τ).loc main_arg10) (ix2 i j) := by
  blk_ext [iblk, V, idx10 t]

/-- The edge weights, whole. -/
theorem edgeW_block (i : Fin 16) (j : Fin 32) : (iblk m c 11 t : Vec Ideal S16x32 .f32) (ix2 i j)
    = m ((c : Thread nD τ).loc main_arg11) (ix2 i j) := by
  blk_ext [iblk, V, idx11 t]

/-- The left weights, whole. -/
theorem leftW_block (i : Fin 16) (j : Fin 32) : (iblk m c 12 t : Vec Ideal S16x32 .f32) (ix2 i j)
    = m ((c : Thread nD τ).loc main_arg12) (ix2 i j) := by
  blk_ext [iblk, V, idx12 t]

/-- The right weights, whole. -/
theorem rightW_block (i : Fin 16) (j : Fin 32) : (iblk m c 13 t : Vec Ideal S16x32 .f32) (ix2 i j)
    = m ((c : Thread nD τ).loc main_arg13) (ix2 i j) := by
  blk_ext [iblk, V, idx13 t]

/-- The tail weights, whole. -/
theorem tailW_block (i : Fin 352) (j : Fin 256) : (iblk m c 14 t : Vec Ideal S352x256 .f32) (ix2 i j)
    = m ((c : Thread nD τ).loc main_arg14) (ix2 i j) := by
  blk_ext [iblk, V, idx14 t]

/-! ## The array -/

/-- The launch memory's arguments hold the real numbers of `T`. -/
abbrev ArgsHold (T : Tables) : Prop :=
  Holds T
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14))

variable {m c}

/-- A load of some rows of the tail weights. -/
theorem tail_rows {T : Tables} (h : ArgsHold m c T) {o k : ℕ} (ho : o + k ≤ 352)
    (inb : ∀ a : Fin S352x256.rank, (![o, 0] : Fin 2 → ℕ) a + (![k, 256] : Fin 2 → ℕ) a ≤ S352x256.size a)
    (i : Fin k) (q : Fin 256) :
    View.ld (iblk m c 14 t : Vec Ideal S352x256 .f32) (Rect.unit ![o, 0] ![k, 256] inb) (ix2 i q)
      = (T.tailW ⟨o + i.val, by omega⟩ q : EReal) := by
  rw [← h.tailW, ← tailW_block m c t]
  refine congrArg (iblk m c 14 t : Vec Ideal S352x256 .f32) (funext fun a => Fin.ext ?_)
  match a with
  | ⟨0, _⟩ => show o + 1 * i.val = o + i.val; omega
  | ⟨1, _⟩ => show 0 + 1 * q.val = q.val; omega

/-- Every point's output block holds the results of its rows. -/
theorem block_eq {T : Tables} (hT : InRange T) (h : ArgsHold m c T) (b : Fin 128) (q : Fin 256) :
    block m c t (folds m c start) (ix2 b q) = (result T ⟨128 * t.val + b.val, row_lt t b⟩ q : EReal) := by
  refine Block.block_at (x0 := iblk m c 0 t) (x1 := iblk m c 1 t) (x2 := iblk m c 2 t) (x3 := iblk m c 3 t)
    (x4 := iblk m c 4 t) (x5 := iblk m c 5 t) (x6 := iblk m c 6 start) (x7 := iblk m c 7 start)
    (x8 := iblk m c 8 start) (x9 := iblk m c 9 start) (x10 := iblk m c 10 start) (x11 := iblk m c 11 start)
    (x12 := iblk m c 12 start) (x13 := iblk m c 13 start)
    (y0 := View.ld (iblk m c 14 start) (Rect.unit ![0, 0] ![32, 256] inb_S352x256_S32x256_0_0))
    (y1 := View.ld (iblk m c 14 start) (Rect.unit ![32, 0] ![32, 256] inb_S352x256_S32x256_32_0))
    (y2 := View.ld (iblk m c 14 start) (Rect.unit ![64, 0] ![32, 256] inb_S352x256_S32x256_64_0))
    (y3 := View.ld (iblk m c 14 start) (Rect.unit ![96, 0] ![256, 256] inb_S352x256_S256x256_96_0))
    hT (fun r => ?_) (fun r => ?_) (fun r => ?_) (fun r => ?_) (fun r => ?_) (fun r k => ?_)
    (fun i j => ?_) (fun i j => ?_) (fun i j => ?_) (fun j => ?_) (fun i j => ?_) (fun i j => ?_) (fun i j => ?_)
    (fun i j => ?_) (fun i j => ?_) (fun i j => ?_) (fun i j => ?_) (fun i j => ?_) q
  · rw [filter_block, h.filter]
  · rw [mask_block, h.mask]
  · rw [edge_block, h.edge]
  · rw [glob_block, h.glob]
  · rw [onehot_block, h.onehot]
  · rw [others_block, h.others]
  · rw [embW_block, h.embW]
  · rw [schemaW_block, h.schemaW]
  · rw [headW_block, h.headW]
  · rw [headB_block, h.headB]
  · rw [onehotW_block, h.onehotW]
  · rw [edgeW_block, h.edgeW]
  · rw [leftW_block, h.leftW]
  · rw [rightW_block, h.rightW]
  · rw [tail_rows start h (by omega)]; simp only [Nat.zero_add]
  · exact tail_rows start h (by omega) _ i j
  · exact tail_rows start h (by omega) _ i j
  · exact tail_rows start h (by omega) _ i j

/-- THE ARRAY: where the arguments hold `T`, the kernel's result array holds the results of `T`. -/
theorem array_eq {T : Tables} (hT : InRange T) (h : ArgsHold m c T) (n : Fin 8192) (q : Fin 256) :
    Value.G15 m c (ix2 n q) = (result T n q : EReal) := by
  have hN : cfg0.N = 64 := N_0
  have hn := n.isLt
  have hq := q.isLt
  have hp : Value.pt15Of (ix2 n q) < cfg0.N := by
    show 1 * (n.val / 128 - 0) + 1 * (q.val / 256 - 0) < cfg0.N
    omega
  unfold Value.G15
  rw [dif_pos hp, ← Value.outsAt0_sweep m c _ hp, out_eq m c ⟨_, hp⟩]
  have hl : Value.loc15Of (ix2 n q) = ix2 ⟨n.val % 128, Nat.mod_lt _ (by decide)⟩ q := by
    funext a
    apply Fin.ext
    match a with
    | ⟨0, _⟩ => rfl
    | ⟨1, _⟩ => show q.val % 256 = q.val; omega
  rw [hl, block_eq ⟨_, hp⟩ hT h]
  congr 2
  apply Fin.ext
  show 128 * (1 * (n.val / 128 - 0) + 1 * (q.val / 256 - 0)) + n.val % 128 = n.val
  omega

end Cert.KernelIdeal.Sweep
-- ==== Proof.Reference.lean ====
/- What the reference computes, at one row and one feature. -/
module
public import proofs.«01_k».proof.Proof.Gen.ReferenceIdeal.Run
public import proofs.«01_k».proof.Proof.Words
public import proofs.«01_k».proof.Proof.Arrays
public import Idealize.ShloMosaic.Lib.Routing.OpsOrder

@[expose] public section
set_option maxRecDepth 16384

noncomputable section
namespace Cert.ReferenceIdeal.Rows
open Idealize.ShloMosaic Idealize.ShloMosaic.TcCoe TableEncoder Cert.ReferenceIdeal.Gen

/-! ## The reference in stages -/

/-- The heads with their bias, for every row and column. -/
def heads (onehot : FVec Ideal S8192x512 .f32) (others : FVec Ideal S8192x65x13 .f32)
    (embW : FVec Ideal S512x1024 .f32) (schemaW : FVec Ideal S13x32 .f32) (headW : FVec Ideal S32x48 .f32)
    (headB : FVec Ideal S48 .f32) : FVec Ideal S8192x65x48 .f32 :=
  addf (Host.dotGeneral dot_S8192x65x32_S32x48_S8192x65x48_2_0_01_1_n_n none
      (maximumf (Host.dotGeneral dot_S8192x65x32_S8192x32x32_S8192x65x32_2_1_1_2_0_0 none
          (Host.dotGeneral dot_S8192x65x13_S13x32_S8192x65x32_2_0_01_1_n_n none others schemaW)
          (shapeCast S8192x32x32 (Host.dotGeneral dot_S8192x512_S512x1024_S8192x1024_1_0_0_1_n_n none onehot embW)
            shapeCasts_S8192x1024_S8192x32x32))
        (broadcastInDim S8192x65x32 ![] bcast_S_S8192x65x32 (constant S_ .f32 0x00000000#32))) headW)
    (broadcastInDim S8192x65x48 ![0, 1, 2] bcast_S1x1x48_S8192x65x48_0_1_2
      (broadcastInDim S1x1x48 ![2] bcast_S48_S1x1x48_2 headB))

/-- The scales of the left and of the right heads, one half after the other. -/
def costs (filter mask : FVec Ideal S8192x65 .f32) : FVec Ideal S8192x130 .f32 :=
  Host.negf (Host.log (maximumf (broadcastInDim S8192x130 ![] bcast_S_S8192x130 (id (constant S_ .f32 0x3089705F#32)))
    (subf (broadcastInDim S8192x130 ![] bcast_S_S8192x130 (constant S_ .f32 0x3F800000#32))
      (mulf (concatenate S8192x130 1 [⟨S8192x65, filter⟩, ⟨S8192x65,
            subf (broadcastInDim S8192x65 ![] bcast_S_S8192x65 (constant S_ .f32 0x3F800000#32)) filter⟩]
          concatenates_S8192x65_S8192x65_S8192x130_d1)
        (concatenate S8192x130 1 [⟨S8192x65, mask⟩, ⟨S8192x65, mask⟩]
          concatenates_S8192x65_S8192x65_S8192x130_d1)))))

/-- The left and the right heads, one half after the other, each times its scale. -/
def cells (e : FVec Ideal S8192x65x48 .f32) (k : FVec Ideal S8192x130 .f32) : FVec Ideal S8192x130x16 .f32 :=
  mulf (concatenate S8192x130x16 1
      [⟨S8192x65x16, extractStridedSlice S8192x65x16 ![0, 0, 0] e slices_S8192x65x48_S8192x65x16_0_0_0⟩,
       ⟨S8192x65x16, extractStridedSlice S8192x65x16 ![0, 0, 16] e slices_S8192x65x48_S8192x65x16_0_0_16⟩]
      concatenates_S8192x65x16_S8192x65x16_S8192x130x16_d1)
    (broadcastInDim S8192x130x16 ![0, 1, 2] bcast_S8192x130x1_S8192x130x16_0_1_2
      (broadcastInDim S8192x130x1 ![0, 1] bcast_S8192x130_S8192x130x1_0_1 k))

/-- Which entries are not zero. -/
def nonzero (x : FVec Ideal S8192x65 .f32) : IVec S8192x65 1 :=
  id (cmpf .une x (broadcastInDim S8192x65 ![] bcast_S_S8192x65 (constant S_ .f32 0x00000000#32)))

/-- The largest of the columns kept, and zero in a row that keeps none. -/
def largest (keep : IVec S8192x65 1) (x : FVec Ideal S8192x65x16 .f32) : FVec Ideal S8192x16 .f32 :=
  select (broadcastInDim S8192x16 ![0, 1] bcast_S8192x1_S8192x16_0_1
      (broadcastInDim S8192x1 ![0] bcast_S8192_S8192x1_0
        (Host.reduce IntOp.ori keep (constantI S_ 1 0#1) reducesTo_S8192x65_S8192_d1 h_S_)))
    (Host.reduce FloatOps.maximumf
      (select (broadcastInDim S8192x65x16 ![0, 1, 2] bcast_S8192x65x1_S8192x65x16_0_1_2
          (broadcastInDim S8192x65x1 ![0, 1] bcast_S8192x65_S8192x65x1_0_1 keep)) x
        (broadcastInDim S8192x65x16 ![] bcast_S_S8192x65x16 (constant S_ .f32 0xFF800000#32)))
      (constant S_ .f32 0xFF800000#32) reducesTo_S8192x65x16_S8192x16_d1 h_S_)
    (broadcastInDim S8192x16 ![] bcast_S_S8192x16 (constant S_ .f32 0x00000000#32))

/-- The edge heads times the edges. -/
def edges (e : FVec Ideal S8192x65x48 .f32) (edge : FVec Ideal S8192x65 .f32) : FVec Ideal S8192x65x16 .f32 :=
  mulf (extractStridedSlice S8192x65x16 ![0, 0, 32] e slices_S8192x65x48_S8192x65x16_0_0_32)
    (broadcastInDim S8192x65x16 ![0, 1, 2] bcast_S8192x65x1_S8192x65x16_0_1_2
      (broadcastInDim S8192x65x1 ![0, 1] bcast_S8192x65_S8192x65x1_0_1 edge))

/-- The last layers, over the three maxima. -/
def tail (pe pl pr : FVec Ideal S8192x16 .f32) (onehot : FVec Ideal S8192x512 .f32) (glob : FVec Ideal S8192x32 .f32)
    (onehotW : FVec Ideal S544x256 .f32) (edgeW leftW rightW : FVec Ideal S16x32 .f32)
    (tailW : FVec Ideal S352x256 .f32) : FVec Ideal S8192x256 .f32 :=
  Host.dotGeneral dot_S8192x352_S352x256_S8192x256_1_0_0_1_n_n none
    (concatenate S8192x352 1
      [⟨S8192x32, Host.dotGeneral dot_S8192x16_S16x32_S8192x32_1_0_0_1_n_n none pe edgeW⟩,
       ⟨S8192x32, Host.dotGeneral dot_S8192x16_S16x32_S8192x32_1_0_0_1_n_n none pl leftW⟩,
       ⟨S8192x32, Host.dotGeneral dot_S8192x16_S16x32_S8192x32_1_0_0_1_n_n none pr rightW⟩,
       ⟨S8192x256, Host.dotGeneral dot_S8192x544_S544x256_S8192x256_1_0_0_1_n_n none
          (concatenate S8192x544 1 [⟨S8192x512, onehot⟩, ⟨S8192x32, glob⟩]
            concatenates_S8192x512_S8192x32_S8192x544_d1) onehotW⟩]
      concatenates_S8192x32_S8192x32_S8192x32_S8192x256_S8192x352_d1) tailW

/-! ## The stages at an index -/

variable {T : Tables} {n : Fin 8192}
  {onehot : FVec Ideal S8192x512 .f32} {others : FVec Ideal S8192x65x13 .f32}
  {embW : FVec Ideal S512x1024 .f32} {schemaW : FVec Ideal S13x32 .f32} {headW : FVec Ideal S32x48 .f32}
  {headB : FVec Ideal S48 .f32} {filter mask edge : FVec Ideal S8192x65 .f32}
  {e : FVec Ideal S8192x65x48 .f32} {k : FVec Ideal S8192x130 .f32} {pe pl pr : FVec Ideal S8192x16 .f32}
  {glob : FVec Ideal S8192x32 .f32} {onehotW : FVec Ideal S544x256 .f32} {edgeW leftW rightW : FVec Ideal S16x32 .f32}
  {tailW : FVec Ideal S352x256 .f32}

/-- The heads with their bias. -/
theorem heads_at (h4 : ∀ s, onehot (ix2 n s) = (T.onehot n s : EReal))
    (h5 : ∀ r c, others (ix3 n r c) = (T.others n r c : EReal))
    (h6 : ∀ s l, embW (ix2 s l) = (T.embW s l : EReal)) (h7 : ∀ c h, schemaW (ix2 c h) = (T.schemaW c h : EReal))
    (h8 : ∀ k j, headW (ix2 k j) = (T.headW k j : EReal)) (h9 : ∀ j, headB (ix1 j) = (T.headB j : EReal))
    (r : Fin 65) (j : Fin 48) :
    heads onehot others embW schemaW headW headB (ix3 n r j) = ((head T n r j + T.headB j : ℝ) : EReal) := by
  unfold heads
  pointwise []
  simp only [h4, h5, h6, h7, h8, h9, ← EReal.coe_mul, ← coe_sum, ← EReal.coe_zero, ← coe_max, ← EReal.coe_add]
  rfl

/-- The scales of the left heads. -/
theorem costs_left (h0 : ∀ r, filter (ix2 n r) = (T.filter n r : EReal))
    (h1 : ∀ r, mask (ix2 n r) = (T.mask n r : EReal)) (r : Fin 65) :
    costs filter mask (ix2 n ⟨r.val, by omega⟩) = (costLeft T n r : EReal) := by
  unfold costs
  dsimp only [id]
  pointwise []
  rw [word_least, h0, h1, ← EReal.coe_one, ← EReal.coe_mul, ← EReal.coe_sub, ← coe_max, log_clip, ← EReal.coe_neg]
  rfl

/-- The scales of the right heads. -/
theorem costs_right (h0 : ∀ r, filter (ix2 n r) = (T.filter n r : EReal))
    (h1 : ∀ r, mask (ix2 n r) = (T.mask n r : EReal)) (r : Fin 65) :
    costs filter mask (ix2 n ⟨65 + r.val, by omega⟩) = (costRight T n r : EReal) := by
  unfold costs
  dsimp only [id]
  pointwise []
  rw [word_least, h0, h1, ← EReal.coe_one, ← EReal.coe_sub, ← EReal.coe_mul, ← EReal.coe_sub, ← coe_max, log_clip,
    ← EReal.coe_neg]
  rfl

/-- The left half of the cells holds the scores of the left heads. -/
theorem cells_left (he : ∀ r j, e (ix3 n r j) = ((head T n r j + T.headB j : ℝ) : EReal))
    (hk : ∀ r : Fin 65, k (ix2 n ⟨r.val, by omega⟩) = (costLeft T n r : EReal)) (r : Fin 65) (j : Fin 16) :
    extractStridedSlice S8192x65x16 ![0, 0, 0] (cells e k) slices_S8192x130x16_S8192x65x16_0_0_0 (ix3 n r j)
      = (score T n r ⟨j.val, by omega⟩ : EReal) := by
  unfold cells
  pointwise []
  rw [he, hk, ← EReal.coe_mul]
  unfold score scale
  rw [if_pos (show (⟨j.val, _⟩ : Fin 48).val < 16 from j.isLt)]

/-- The right half of the cells holds the scores of the right heads. -/
theorem cells_right (he : ∀ r j, e (ix3 n r j) = ((head T n r j + T.headB j : ℝ) : EReal))
    (hk : ∀ r : Fin 65, k (ix2 n ⟨65 + r.val, by omega⟩) = (costRight T n r : EReal)) (r : Fin 65) (j : Fin 16) :
    extractStridedSlice S8192x65x16 ![0, 65, 0] (cells e k) slices_S8192x130x16_S8192x65x16_0_65_0 (ix3 n r j)
      = (score T n r ⟨16 + j.val, by omega⟩ : EReal) := by
  unfold cells
  pointwise []
  rw [he, hk, ← EReal.coe_mul]
  unfold score scale
  rw [if_neg (show ¬ (⟨16 + j.val, _⟩ : Fin 48).val < 16 by simp), if_pos (show 16 + j.val < 32 by omega)]

/-- The edge heads times the edges are the scores of the edge heads. -/
theorem edges_at (he : ∀ r j, e (ix3 n r j) = ((head T n r j + T.headB j : ℝ) : EReal))
    (h2 : ∀ r, edge (ix2 n r) = (T.edge n r : EReal)) (r : Fin 65) (j : Fin 16) :
    edges e edge (ix3 n r j) = (score T n r ⟨32 + j.val, by omega⟩ : EReal) := by
  unfold edges
  pointwise []
  rw [he, h2, ← EReal.coe_mul]
  unfold score scale
  rw [if_neg (show ¬ 32 + j.val < 16 by omega), if_neg (show ¬ 32 + j.val < 32 by omega)]

/-- An entry that is a real number is not zero exactly when that number is not. -/
theorem nonzero_at {x : FVec Ideal S8192x65 .f32} {y : ℝ} (r : Fin 65) (h : x (ix2 n r) = (y : EReal)) :
    nonzero x (ix2 n r) = if y = 0 then 0#1 else 1#1 := by
  unfold nonzero
  dsimp only [id]
  pointwise []
  by_cases hy : y = 0
  · rw [if_pos hy, h, hy]; simp
  · rw [if_neg hy, h, decide_eq_true (by exact_mod_cast hy)]; rfl

/-- The largest score of the columns kept is the peak. -/
theorem largest_at (hT : InRange T) {keep : IVec S8192x65 1} {x : FVec Ideal S8192x65x16 .f32} (j : Fin 16)
    (i : Fin 48) (hk : ∀ r, Kept T n r i → keep (ix2 n r) = 1#1) (hu : ∀ r, ¬ Kept T n r i → keep (ix2 n r) = 0#1)
    (hx : ∀ r, x (ix3 n r j) = (score T n r i : EReal)) : largest keep x (ix2 n j) = (peak T n i : EReal) := by
  unfold largest
  pointwise []
  have any : Finset.fold IntOp.ori (0#1) (fun r => keep (ix2 n r)) Finset.univ = 1#1 := by
    obtain ⟨r, hr⟩ := exists_kept n hT i
    exact (Routing.fold_ori _ _).mpr ⟨r, Finset.mem_univ r, hk r hr⟩
  rw [any, word_bot, coe_peak n hT]
  refine (if_pos rfl).trans ?_
  unfold peakE
  refine congrArg (fun f => Finset.fold max ⊥ f Finset.univ) (funext fun r => ?_)
  by_cases h : Kept T n r i
  · rw [if_pos h, hk r h, hx]; rfl
  · rw [if_neg h, hu r h]; rfl

/-- A sum over the tail's rows, part by part. -/
theorem sum_parts (f : Fin 352 → EReal) :
    ∑ p, f p = (∑ h : Fin 32, f ⟨h.val, by omega⟩ + ∑ h : Fin 32, f ⟨32 + h.val, by omega⟩
      + ∑ h : Fin 32, f ⟨64 + h.val, by omega⟩) + ∑ p : Fin 256, f ⟨96 + p.val, by omega⟩ :=
  (Fin.sum_univ_add (a := 96) (b := 256) f).trans (congrArg (· + _)
    ((Fin.sum_univ_add (a := 64) (b := 32) _).trans (congrArg (· + _) (Fin.sum_univ_add (a := 32) (b := 32) _))))

/-- The last layers give the result. -/
theorem tail_at (he : ∀ j : Fin 16, pe (ix2 n j) = (peak T n ⟨32 + j.val, by omega⟩ : EReal))
    (hl : ∀ j : Fin 16, pl (ix2 n j) = (peak T n ⟨j.val, by omega⟩ : EReal))
    (hr : ∀ j : Fin 16, pr (ix2 n j) = (peak T n ⟨16 + j.val, by omega⟩ : EReal))
    (h4 : ∀ s, onehot (ix2 n s) = (T.onehot n s : EReal)) (h3 : ∀ g, glob (ix2 n g) = (T.glob n g : EReal))
    (h10 : ∀ s p, onehotW (ix2 s p) = (T.onehotW s p : EReal)) (h11 : ∀ j h, edgeW (ix2 j h) = (T.edgeW j h : EReal))
    (h12 : ∀ j h, leftW (ix2 j h) = (T.leftW j h : EReal)) (h13 : ∀ j h, rightW (ix2 j h) = (T.rightW j h : EReal))
    (h14 : ∀ p q, tailW (ix2 p q) = (T.tailW p q : EReal)) (q : Fin 256) :
    tail pe pl pr onehot glob onehotW edgeW leftW rightW tailW (ix2 n q) = (result T n q : EReal) := by
  unfold tail
  pointwise []
  rw [sum_parts]
  simp (disch := omega) only [dif_pos, dif_neg, Nat.sub_sub, Nat.reduceAdd, Nat.add_sub_cancel_left]
  simp only [he, hl, hr, h4, h3, h10, h11, h12, h13, h14, ← EReal.coe_mul, ← coe_sum, ← EReal.coe_add]
  rfl

/-! ## The result -/

variable (m : (ℓ : Loc nD τ sig) → Buf (Elt Ideal) ℓ) (c : Dev nD)

/-- The heads over the launch memory. -/
def headsOf : FVec Ideal S8192x65x48 .f32 :=
  heads (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

/-- The left and right cells over the launch memory. -/
def cellsOf : FVec Ideal S8192x130x16 .f32 :=
  cells (headsOf m c) (costs (m ((c : Thread nD τ).loc main_arg0)) (m ((c : Thread nD τ).loc main_arg1)))

/-- The reference's result is its stages, one after the other. -/
theorem result_stages : Value.res_main_v67 m c = tail
    (largest (nonzero (m ((c : Thread nD τ).loc main_arg2)))
      (edges (headsOf m c) (m ((c : Thread nD τ).loc main_arg2))))
    (largest (nonzero (m ((c : Thread nD τ).loc main_arg1)))
      (extractStridedSlice S8192x65x16 ![0, 0, 0] (cellsOf m c) slices_S8192x130x16_S8192x65x16_0_0_0))
    (largest (nonzero (m ((c : Thread nD τ).loc main_arg1)))
      (extractStridedSlice S8192x65x16 ![0, 65, 0] (cellsOf m c) slices_S8192x130x16_S8192x65x16_0_65_0))
    (m ((c : Thread nD τ).loc main_arg4)) (m ((c : Thread nD τ).loc main_arg3))
    (m ((c : Thread nD τ).loc main_arg10)) (m ((c : Thread nD τ).loc main_arg11))
    (m ((c : Thread nD τ).loc main_arg12)) (m ((c : Thread nD τ).loc main_arg13))
    (m ((c : Thread nD τ).loc main_arg14)) := rfl

variable {m c}

/-- THE REFERENCE: where the arguments hold `T`, the reference's result array holds the results of `T`. -/
theorem array_eq {T : Tables} (hT : InRange T) (h : Holds T
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14))) (n : Fin 8192) (q : Fin 256) :
    Value.res_main_v67 m c (ix2 n q) = (result T n q : EReal) := by
  have hh : ∀ r j, headsOf m c (ix3 n r j) = ((head T n r j + T.headB j : ℝ) : EReal) :=
    heads_at (h.onehot n) (h.others n) h.embW h.schemaW h.headW h.headB
  have hm1 : ∀ r (j : Fin 48), j.val < 32 → Kept T n r j →
      nonzero (m ((c : Thread nD τ).loc main_arg1)) (ix2 n r) = 1#1 := fun r j hj k => by
    rw [nonzero_at r (h.mask n r), if_neg]
    unfold Kept at k
    rw [if_pos hj] at k
    rw [k]; norm_num
  have hm0 : ∀ r (j : Fin 48), j.val < 32 → ¬ Kept T n r j →
      nonzero (m ((c : Thread nD τ).loc main_arg1)) (ix2 n r) = 0#1 := fun r j hj k => by
    rw [nonzero_at r (h.mask n r), if_pos]
    unfold Kept at k
    rw [if_pos hj] at k
    exact (hT.mask n r).resolve_right k
  have he1 : ∀ r (j : Fin 48), ¬ j.val < 32 → Kept T n r j →
      nonzero (m ((c : Thread nD τ).loc main_arg2)) (ix2 n r) = 1#1 := fun r j hj k => by
    rw [nonzero_at r (h.edge n r), if_neg]
    unfold Kept at k
    rw [if_neg hj] at k
    exact k.ne'
  have he0 : ∀ r (j : Fin 48), ¬ j.val < 32 → ¬ Kept T n r j →
      nonzero (m ((c : Thread nD τ).loc main_arg2)) (ix2 n r) = 0#1 := fun r j hj k => by
    rw [nonzero_at r (h.edge n r), if_pos]
    unfold Kept at k
    rw [if_neg hj] at k
    exact le_antisymm (not_lt.mp k) (hT.edge_nonneg n r)
  rw [result_stages]
  refine tail_at (fun j => ?_) (fun j => ?_) (fun j => ?_) (h.onehot n) (h.glob n) h.onehotW h.edgeW h.leftW
    h.rightW h.tailW q
  · have hj : ¬ (⟨32 + j.val, by omega⟩ : Fin 48).val < 32 := by simp
    exact largest_at hT j _ (fun r => he1 r _ hj) (fun r => he0 r _ hj)
      (fun r => edges_at hh (h.edge n) r j)
  · have hj : (⟨j.val, by omega⟩ : Fin 48).val < 32 := by show j.val < 32; omega
    exact largest_at hT j _ (fun r => hm1 r _ hj) (fun r => hm0 r _ hj)
      (fun r => cells_left hh (costs_left (h.filter n) (h.mask n)) r j)
  · have hj : (⟨16 + j.val, by omega⟩ : Fin 48).val < 32 := by show 16 + j.val < 32; omega
    exact largest_at hT j _ (fun r => hm1 r _ hj) (fun r => hm0 r _ hj)
      (fun r => cells_right hh (costs_right (h.filter n) (h.mask n)) r j)

end Cert.ReferenceIdeal.Rows
-- ==== Proof.Precondition.lean ====
/- What the precondition says: the argument arrays hold real numbers in range. -/
module
public import proofs.«01_k».proof.Proof.Gen.Pre_in_range
public import proofs.«01_k».proof.Proof.Arrays
public import Idealize.ShloMosaic.Lib.Routing.OpsOrder

@[expose] public section
set_option maxRecDepth 16384

noncomputable section
namespace TableEncoder
open Idealize.ShloMosaic Cert.Pre_in_range Cert.Pre_in_range.Gen

/-- A bit made of a truth value is one exactly when the statement is true. -/
theorem of_bit {P : Prop} [Decidable P] (h : BitVec.ofBool (decide P) = 1#1) : P := by
  by_contra hP
  rw [decide_eq_false hP] at h
  exact absurd h (by decide)

/-- A number whose magnitude is below infinity is real. -/
theorem coe_of_magnitude {x : EReal} (h : max x (-x) < ⊤) : x = (x.toReal : EReal) := by
  refine (EReal.coe_toReal (fun e => ?_) (fun e => ?_)).symm
  · rw [e] at h; simp at h
  · rw [e] at h; simp at h

/-- The array that holds one binary32 word everywhere. -/
abbrev everywhere (s : Shape) (hs : S_.BroadcastsInDim s (![] : Fin 0 → Fin s.rank)) (w : BitVec 32) : FVec Ideal s .f32 :=
  broadcastInDim s ![] hs (constant S_ .f32 w)

variable {s : Shape} {hs : S_.BroadcastsInDim s (![] : Fin 0 → Fin s.rank)} {a : FVec Ideal s .f32}

/-- An entry whose magnitude compares below infinity is real. -/
theorem finite_at (h : cmpf .olt (Host.absf a) (everywhere s hs 0x7F800000#32) = (fun _ => 1#1)) (i : s.Idx) :
    a i = ((a i).toReal : EReal) := by
  refine coe_of_magnitude ?_
  rw [← word_top]
  exact of_bit (congrFun h i)

/-- An entry whose magnitude compares at most the bound is a real number at most the bound. -/
theorem small_at_entry (i : s.Idx) (h : cmpf .ole (Host.absf a) (everywhere s hs 0x47800000#32) i = 1#1) :
    a i = ((a i).toReal : EReal) ∧ |(a i).toReal| ≤ bound := by
  have h' : max (a i) (-(a i)) ≤ (bound : EReal) := by
    rw [← word_bound]
    exact of_bit h
  have e := coe_of_magnitude (lt_of_le_of_lt h' (EReal.coe_lt_top _))
  refine ⟨e, ?_⟩
  rw [e, ← EReal.coe_neg, ← coe_max, EReal.coe_le_coe_iff] at h'
  exact h'

/-- The same of an array that compares so everywhere. -/
theorem small_at (h : cmpf .ole (Host.absf a) (everywhere s hs 0x47800000#32) = (fun _ => 1#1)) (i : s.Idx) :
    a i = ((a i).toReal : EReal) ∧ |(a i).toReal| ≤ bound :=
  small_at_entry i (congrFun h i)

/-- An entry that compares equal to one is one. -/
theorem eq_one (i : s.Idx) (h : cmpf .oeq a (everywhere s hs 0x3F800000#32) i = 1#1) : a i = 1 := by
  rw [← word_one]
  exact of_bit h

/-- An entry that compares equal to zero is zero. -/
theorem eq_zero (i : s.Idx) (h : cmpf .oeq a (everywhere s hs 0x00000000#32) i = 1#1) : a i = 0 := by
  rw [← word_zero]
  exact of_bit h

/-- An entry that compares at least zero is. -/
theorem nonneg (i : s.Idx) (h : cmpf .oge a (everywhere s hs 0x00000000#32) i = 1#1) : 0 ≤ a i := by
  rw [← word_zero]
  exact of_bit h

/-- An entry that compares above zero is. -/
theorem pos (i : s.Idx) (h : cmpf .ogt a (everywhere s hs 0x00000000#32) i = 1#1) : 0 < a i := by
  rw [← word_zero]
  exact of_bit h

/-- A disjunction of bits that is one has a bit that is one. -/
theorem of_or {v w : BitVec 1} (h : IntOp.ori v w = 1#1) : v = 1#1 ∨ w = 1#1 := by
  revert v w; decide

/-- A conjunction of bits that is one has both bits one. -/
theorem of_and {v w : BitVec 1} (h : IntOp.andi v w = 1#1) : v = 1#1 ∧ w = 1#1 := by
  revert v w; decide

/-- A row whose bits' disjunction is one has a bit that is one. -/
theorem some_bit {v : IVec S8192x65 1}
    (h : Host.reduce IntOp.ori v (constantI S_ 1 0#1) reducesTo_S8192x65_S8192_d1 h_S_ = (fun _ => 1#1)) (n : Fin 8192) :
    ∃ r, v (ix2 n r) = 1#1 := by
  have h := congrFun h (ix1 n)
  revert h
  pointwise []
  intro h
  obtain ⟨r, -, hr⟩ := (Routing.fold_ori _ _).mp h
  exact ⟨r, hr⟩

/-- THE PRECONDITION: where it is all ones, the arrays hold real numbers that are in range. -/
theorem exists_tables (a0 a1 a2 : FVec Ideal S8192x65 .f32) (a3 : FVec Ideal S8192x32 .f32)
    (a4 : FVec Ideal S8192x512 .f32) (a5 : FVec Ideal S8192x65x13 .f32) (a6 : FVec Ideal S512x1024 .f32)
    (a7 : FVec Ideal S13x32 .f32) (a8 : FVec Ideal S32x48 .f32) (a9 : FVec Ideal S48 .f32)
    (a10 : FVec Ideal S544x256 .f32) (a11 a12 a13 : FVec Ideal S16x32 .f32) (a14 : FVec Ideal S352x256 .f32)
    (h : let p := fn (F := Ideal) a0 a1 a2 a3 a4 a5 a6 a7 a8 a9 a10 a11 a12 a13 a14
      p.1 = (fun _ => 1#1)
      ∧ p.2.1 = (fun _ => 1#1)
      ∧ p.2.2.1 = (fun _ => 1#1)
      ∧ p.2.2.2.1 = (fun _ => 1#1)
      ∧ p.2.2.2.2.1 = (fun _ => 1#1)
      ∧ p.2.2.2.2.2.1 = (fun _ => 1#1)
      ∧ p.2.2.2.2.2.2.1 = (fun _ => 1#1)
      ∧ p.2.2.2.2.2.2.2.1 = (fun _ => 1#1)
      ∧ p.2.2.2.2.2.2.2.2.1 = (fun _ => 1#1)
      ∧ p.2.2.2.2.2.2.2.2.2.1 = (fun _ => 1#1)
      ∧ p.2.2.2.2.2.2.2.2.2.2.1 = (fun _ => 1#1)
      ∧ p.2.2.2.2.2.2.2.2.2.2.2.1 = (fun _ => 1#1)
      ∧ p.2.2.2.2.2.2.2.2.2.2.2.2.1 = (fun _ => 1#1)
      ∧ p.2.2.2.2.2.2.2.2.2.2.2.2.2.1 = (fun _ => 1#1)
      ∧ p.2.2.2.2.2.2.2.2.2.2.2.2.2.2.1 = (fun _ => 1#1)
      ∧ p.2.2.2.2.2.2.2.2.2.2.2.2.2.2.2.1 = (fun _ => 1#1)
      ∧ p.2.2.2.2.2.2.2.2.2.2.2.2.2.2.2.2 = (fun _ => 1#1)) :
    ∃ T : Tables, InRange T ∧ Holds T a0 a1 a2 a3 a4 a5 a6 a7 a8 a9 a10 a11 a12 a13 a14 := by
  simp only [fn, fn_part1, fn_part2, fn_part3] at h
  obtain ⟨h0, h1, h2, h3, h4, h5, h6, h7, h8, h9, h10, h11, h12, h13, h14, h15, h16⟩ := h
  have s0 := fun n r => small_at h0 (ix2 n r)
  have s4 := fun n r => small_at h5 (ix2 n r)
  have s5 := fun n r k => small_at h6 (ix3 n r k)
  have s6 := fun n r => small_at h7 (ix2 n r)
  have s7 := fun n r => small_at h8 (ix2 n r)
  have s8 := fun n r => small_at h9 (ix2 n r)
  have s9 := fun n => small_at h10 (ix1 n)
  have f3 := fun n r => finite_at h11 (ix2 n r)
  have f10 := fun n r => finite_at h12 (ix2 n r)
  have f11 := fun n r => finite_at h13 (ix2 n r)
  have f12 := fun n r => finite_at h14 (ix2 n r)
  have f13 := fun n r => finite_at h15 (ix2 n r)
  have f14 := fun n r => finite_at h16 (ix2 n r)
  have m1 : ∀ n r, a1 (ix2 n r) = 0 ∨ a1 (ix2 n r) = 1 := fun n r =>
    (of_or (congrFun h1 (ix2 n r))).imp (eq_zero _) (eq_one _)
  have e2 : ∀ n r, 0 ≤ a2 (ix2 n r) ∧ a2 (ix2 n r) = ((a2 (ix2 n r)).toReal : EReal)
      ∧ |(a2 (ix2 n r)).toReal| ≤ bound := fun n r =>
    (of_and (congrFun h2 (ix2 n r))).imp (nonneg _) (small_at_entry _)
  have some1 : ∀ n, ∃ r, a1 (ix2 n r) = 1 := fun n => (some_bit h3 n).imp fun _ => eq_one _
  have some2 : ∀ n, ∃ r, 0 < a2 (ix2 n r) := fun n => (some_bit h4 n).imp fun _ => pos _
  refine ⟨⟨fun n r => (a0 (ix2 n r)).toReal, fun n r => (a1 (ix2 n r)).toReal, fun n r => (a2 (ix2 n r)).toReal,
    fun n r => (a3 (ix2 n r)).toReal, fun n r => (a4 (ix2 n r)).toReal, fun n r k => (a5 (ix3 n r k)).toReal,
    fun n r => (a6 (ix2 n r)).toReal, fun n r => (a7 (ix2 n r)).toReal, fun n r => (a8 (ix2 n r)).toReal,
    fun n => (a9 (ix1 n)).toReal, fun n r => (a10 (ix2 n r)).toReal, fun n r => (a11 (ix2 n r)).toReal,
    fun n r => (a12 (ix2 n r)).toReal, fun n r => (a13 (ix2 n r)).toReal, fun n r => (a14 (ix2 n r)).toReal⟩,
    ?_, ?_⟩
  · refine ⟨fun n r => (s0 n r).2, fun n r => ?_, fun n r => ?_, fun n r => (e2 n r).2.2, fun n => ?_, fun n => ?_,
      fun n r => (s4 n r).2, fun n r k => (s5 n r k).2, fun n r => (s6 n r).2, fun n r => (s7 n r).2,
      fun n r => (s8 n r).2, fun n => (s9 n).2⟩
    · rcases m1 n r with e | e <;> simp [e]
    · exact EReal.toReal_nonneg (e2 n r).1
    · obtain ⟨r, hr⟩ := some1 n
      exact ⟨r, by simp [hr]⟩
    · obtain ⟨r, hr⟩ := some2 n
      exact ⟨r, by rw [(e2 n r).2.1] at hr; exact_mod_cast hr⟩
  · refine ⟨fun n r => (s0 n r).1, fun n r => ?_, fun n r => (e2 n r).2.1, f3, fun n r => (s4 n r).1,
      fun n r k => (s5 n r k).1, fun n r => (s6 n r).1, fun n r => (s7 n r).1, fun n r => (s8 n r).1,
      fun n => (s9 n).1, f10, f11, f12, f13, f14⟩
    rcases m1 n r with e | e <;> simp [e]

end TableEncoder
-- ==== Proof.lean ====
/- The proof of the claims: the two programs run and keep their arguments, and from arguments that hold the same real
   numbers in range both leave the table encoder's result. -/
module

public import proofs.«01_k».proof.Defs
public import proofs.«01_k».proof.Proof.Gen.Kernel.Frame
public import proofs.«01_k».proof.Proof.KernelArray
public import proofs.«01_k».proof.Proof.Reference
public import proofs.«01_k».proof.Proof.Precondition
public import Idealize.ShloMosaic.Adequacy
public import Idealize.ShloMosaic.Init
public import Idealize.ShloMosaic.Lib.Quiescent

@[expose] public section

noncomputable section

namespace Cert.Proof

open Idealize.ShloMosaic Idealize.SL.Sem TableEncoder

/-- The reference finishes, keeps its arguments and leaves no signal pending. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE CLAIM: where the precondition holds, the kernel and the reference leave the same array. The precondition
    gives the real numbers the arguments hold; on those each program's array is the encoder's result, entry by entry. -/
theorem algebraic_KernelIdeal_ReferenceIdeal_pre_in_range : algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1]
  obtain ⟨T, hT, hm⟩ := exists_tables _ _ _ _ _ _ _ _ _ _ _ _ _ _ _ (hpre c)
  obtain ⟨e0, e1, e2, e3, e4, e5, e6, e7, e8, e9, e10, e11, e12, e13, e14⟩ := hagree c
  funext i
  rw [eq_ix2 i]
  refine (ReferenceIdeal.Rows.array_eq hT ?_ _ _).trans (KernelIdeal.Sweep.array_eq hT hm _ _).symm
  rw [e0, e1, e2, e3, e4, e5, e6, e7, e8, e9, e10, e11, e12, e13, e14]
  exact hm

/-- All the claims. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ, quiescent_ReferenceIdeal, fun m ρ _ => quiescent_ReferenceIdeal m ρ trivial,
    trivial, algebraic_KernelIdeal_ReferenceIdeal_pre_in_range⟩

end Cert.Proof

end
